-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_dy_and_signs [hPre_finite_dy_and_signs : Cert.Pre_finite_dy_and_signs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_dy_and_signs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_dy_and_signs [hPre_finite_dy_and_signs : Cert.Pre_finite_dy_and_signs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_dy_and_signs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_dy_and_signs [hKernelIdeal : Cert.KernelIdeal.Facts] [hPre_finite_dy_and_signs : Cert.Pre_finite_dy_and_signs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_dy_and_signs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_dy_and_signs [hReferenceIdeal : Cert.ReferenceIdeal.Facts] [hPre_finite_dy_and_signs : Cert.Pre_finite_dy_and_signs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_dy_and_signs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_dy_and_signs [hKernelIdeal : Cert.KernelIdeal.Facts] [hReferenceIdeal : Cert.ReferenceIdeal.Facts] [hPre_finite_dy_and_signs : Cert.Pre_finite_dy_and_signs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_dy_and_signs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_dy_and_signs : Cert.Pre_finite_dy_and_signs.Facts),
    quiescent_Kernel (hKernel := hKernel)
    ∧ quiescent_KernelIdeal (hKernelIdeal := hKernelIdeal)
    ∧ quiescent_KernelIdeal_pre_finite_dy_and_signs (hKernelIdeal := hKernelIdeal) (hPre_finite_dy_and_signs := hPre_finite_dy_and_signs)
    ∧ quiescent_ReferenceIdeal (hReferenceIdeal := hReferenceIdeal)
    ∧ quiescent_ReferenceIdeal_pre_finite_dy_and_signs (hReferenceIdeal := hReferenceIdeal) (hPre_finite_dy_and_signs := hPre_finite_dy_and_signs)
    ∧ preserves_Kernel_KernelIdeal
    ∧ algebraic_KernelIdeal_ReferenceIdeal_pre_finite_dy_and_signs (hKernelIdeal := hKernelIdeal) (hReferenceIdeal := hReferenceIdeal) (hPre_finite_dy_and_signs := hPre_finite_dy_and_signs)
-- ==== Pre_finite_dy_and_signs.lean ====
abbrev S7x256x18944 : Shape := ⟨3, ![7, 256, 18944]⟩
abbrev S16 : Shape := ⟨1, ![16]⟩
abbrev S1 : Shape := ⟨1, ![1]⟩
abbrev S1792x3584 : Shape := ⟨2, ![1792, 3584]⟩
abbrev S_ : Shape := ⟨0, ![]⟩

class Facts : Prop where
  bitsLt_bf16_f32 : FTy.bits .bf16 < FTy.bits .f32
  bcast_S_S7x256x18944 : S_.BroadcastsInDim S7x256x18944 (![] : Fin 0 → Fin S7x256x18944.rank)
  reducesTo_S7x256x18944_S_d0_1_2 : S7x256x18944.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S7x256x18944 .bf16) (main_arg1 : FVec F S16 .f32) (main_arg2 : IVec S7x256x18944 8) (main_arg3 : FVec F S1 .f32) (main_arg4 : FVec F S1 .f32) (main_arg5 : FVec F S1792x3584 .bf16) : IVec S_ 1 :=
  let main_v0 : FVec F S7x256x18944 .f32 := (extf .f32 · bitsLt_bf16_f32) main_arg0
  let main_v1 : FVec F S7x256x18944 .f32 := Host.absf main_v0
  let main_cst : FVec F S_ .f32 := constant S_ .f32 0x7F800000#32
  let main_v2 : FVec F S7x256x18944 .f32 := broadcastInDim S7x256x18944 ![] bcast_S_S7x256x18944 main_cst
  let main_v3 : IVec S7x256x18944 1 := cmpf .olt main_v1 main_v2
  let main_c : IVec S_ 1 := constantI S_ 1 1#1
  let main_v4 : IVec S_ 1 := (fun x v => Host.reduce IntOp.andi x v reducesTo_S7x256x18944_S_d0_1_2 h_S_) main_v3 main_c
  let main_v5 : FVec F S16 .f32 := Host.absf main_arg1
  let main_cst_0 : FVec F S_ .f32 := constant S_ .f32 0x3F800000#32
  let main_v6 : FVec F S16 .f32 := broadcastInDim S16 ![] bcast_S_S16 main_cst_0
  let main_v7 : IVec S16 1 := cmpf .oeq main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S7x256x18944 : Shape := ⟨3, ![7, 256, 18944]⟩
abbrev S16 : Shape := ⟨1, ![16]⟩
abbrev S1 : Shape := ⟨1, ![1]⟩
abbrev S1792x3584 : Shape := ⟨2, ![1792, 3584]⟩
abbrev S1792x18944 : Shape := ⟨2, ![1792, 18944]⟩
abbrev S_ : Shape := ⟨0, ![]⟩
abbrev S8x2 : Shape := ⟨2, ![8, 2]⟩
abbrev S8x1 : Shape := ⟨2, ![8, 1]⟩
abbrev S8 : Shape := ⟨1, ![8]⟩
abbrev S3 : Shape := ⟨1, ![3]⟩
abbrev S14x8x2x4x2x3584 : Shape := ⟨6, ![14, 8, 2, 4, 2, 3584]⟩
abbrev S14x2x2x8x4x3584 : Shape := ⟨6, ![14, 2, 2, 8, 4, 3584]⟩
abbrev S18944x3584 : Shape := ⟨2, ![18944, 3584]⟩
abbrev S18944x896 : Shape := ⟨2, ![18944, 896]⟩
abbrev S18944x112 : Shape := ⟨2, ![18944, 112]⟩
abbrev S1792x128 : Shape := ⟨2, ![1792, 128]⟩
abbrev S256x3584 : Shape := ⟨2, ![256, 3584]⟩
abbrev S256x896 : Shape := ⟨2, ![256, 896]⟩
abbrev S256x112 : Shape := ⟨2, ![256, 112]⟩
abbrev S2x256x1792 : Shape := ⟨3, ![2, 256, 1792]⟩
abbrev S2x224x128 : Shape := ⟨3, ![2, 224, 128]⟩
abbrev S2x128x128 : Shape := ⟨3, ![2, 128, 128]⟩
abbrev S128x128 : Shape := ⟨2, ![128, 128]⟩
abbrev S8x16x128 : Shape := ⟨3, ![8, 16, 128]⟩
abbrev S8x1x128 : Shape := ⟨3, ![8, 1, 128]⟩
abbrev S8x128 : Shape := ⟨2, ![8, 128]⟩
abbrev S1x8x128 : Shape := ⟨3, ![1, 8, 128]⟩
abbrev S32x128 : Shape := ⟨2, ![32, 128]⟩
abbrev S8x4x128 : Shape := ⟨3, ![8, 4, 128]⟩
abbrev S1x128x128 : Shape := ⟨3, ![1, 128, 128]⟩
abbrev S1x224x128 : Shape := ⟨3, ![1, 224, 128]⟩
abbrev S224x128 : Shape := ⟨2, ![224, 128]⟩
abbrev S896x128 : Shape := ⟨2, ![896, 128]⟩
abbrev S128x896 : Shape := ⟨2, ![128, 896]⟩
abbrev S128x112 : Shape := ⟨2, ![128, 112]⟩
abbrev S1x256x1792 : Shape := ⟨3, ![1, 256, 1792]⟩
abbrev S256x1792 : Shape := ⟨2, ![256, 1792]⟩
abbrev S1792x512 : Shape := ⟨2, ![1792, 512]⟩
abbrev S256x512 : Shape := ⟨2, ![256, 512]⟩

abbrev nBuf : Space → Nat
  | .hbm => 46
  | .vmem => 18
  | .smem => 2
  | _ => 0

abbrev bufTy : (tb : Table) → Fin (tcTables nBuf tb) → BufTy
  | .hbm, ⟨0, _⟩ => ⟨S7x256x18944, .bf16⟩
  | .hbm, ⟨1, _⟩ => ⟨S16, .f32⟩
  | .hbm, ⟨2, _⟩ => ⟨S7x256x18944, .i8⟩
  | .hbm, ⟨3, _⟩ => ⟨S1, .f32⟩
  | .hbm, ⟨4, _⟩ => ⟨S1, .f32⟩
  | .hbm, ⟨5, _⟩ => ⟨S1792x3584, .bf16⟩
  | .hbm, ⟨6, _⟩ => ⟨S1792x18944, .bf16⟩
  | .hbm, ⟨7, _⟩ => ⟨S1792x18944, .i8⟩
  | .hbm, ⟨8, _⟩ => ⟨S_, .f32⟩
  | .hbm, ⟨9, _⟩ => ⟨S16, .f32⟩
  | .hbm, ⟨10, _⟩ => ⟨S16, .i1⟩
  | .hbm, ⟨11, _⟩ => ⟨S16, .i32⟩
  | .hbm, ⟨12, _⟩ => ⟨S8x2, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S3, .f32⟩
  | .hbm, ⟨37, _⟩ => ⟨S14x8x2x4x2x3584, .bf16⟩
  | .hbm, ⟨38, _⟩ => ⟨S14x2x2x8x4x3584, .bf16⟩
  | .hbm, ⟨39, _⟩ => ⟨S1792x3584, .bf16⟩
  | .hbm, ⟨40, _⟩ => ⟨S_, .bf16⟩
  | .hbm, ⟨41, _⟩ => ⟨S1792x3584, .bf16⟩
  | .hbm, ⟨42, _⟩ => ⟨S1792x3584, .bf16⟩
  | .hbm, ⟨43, _⟩ => ⟨S18944x3584, .f32⟩
  | .hbm, ⟨44, _⟩ => ⟨S18944x896, .i8⟩
  | .hbm, ⟨45, _⟩ => ⟨S18944x112, .fp8e4m3⟩
  | .local _ .vmem, ⟨0, _⟩ => ⟨S1792x128, .bf16⟩
  | .local _ .vmem, ⟨1, _⟩ => ⟨S1792x128, .bf16⟩
  | .local _ .vmem, ⟨2, _⟩ => ⟨S1792x128, .bf16⟩
  | .local _ .vmem, ⟨3, _⟩ => ⟨S1792x128, .bf16⟩
  | .local _ .vmem, ⟨4, _⟩ => ⟨S1792x128, .i8⟩
  | .local _ .vmem, ⟨5, _⟩ => ⟨S1792x128, .i8⟩
  | .local _ .vmem, ⟨6, _⟩ => ⟨S1792x128, .i8⟩
  | .local _ .vmem, ⟨7, _⟩ => ⟨S1792x128, .i8⟩
  | .local _ .vmem, ⟨8, _⟩ => ⟨S1792x3584, .bf16⟩
  | .local _ .vmem, ⟨9, _⟩ => ⟨S256x3584, .f32⟩
  | .local _ .vmem, ⟨10, _⟩ => ⟨S256x3584, .f32⟩
  | .local _ .vmem, ⟨11, _⟩ => ⟨S256x896, .i8⟩
  | .local _ .vmem, ⟨12, _⟩ => ⟨S256x896, .i8⟩
  | .local _ .vmem, ⟨13, _⟩ => ⟨S256x112, .fp8e4m3⟩
  | .local _ .vmem, ⟨14, _⟩ => ⟨S256x112, .fp8e4m3⟩
  | .local _ .vmem, ⟨15, _⟩ => ⟨S2x256x1792, .bf16⟩
  | .local _ .vmem, ⟨16, _⟩ => ⟨S2x224x128, .i32⟩
  | .local _ .vmem, ⟨17, _⟩ => ⟨S2x128x128, .f32⟩
  | .local _ .smem, ⟨0, _⟩ => ⟨S8, .i32⟩
  | .local _ .smem, ⟨1, _⟩ => ⟨S3, .f32⟩
  | _, _ => ⟨S7x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![75], ![false]⟩

def k0_cond1 (i : grid0.Coords) : BitVec 1 :=
  let arg0 : BitVec 32 := BitVec.ofNat 32 (i 0).val
  let c0_i32_78 : BitVec 32 := 0#32
  let v76 : BitVec 1 := Scalar.cmpi .eq arg0 c0_i32_78
  let v77 : BitVec 32 := Scalar.extui v76
  let c0_i32_79 : BitVec 32 := 0#32
  let v78 : BitVec 1 := Scalar.cmpi .ne v77 c0_i32_79
  v78

@[reducible] def k0_t1_loop : Scf.Loop 32 :=
  let c0_i32_86 : BitVec 32 := 0#32
  let c14_i32 : BitVec 32 := 14#32
  let v86 : BitVec 32 := Scalar.addi c0_i32_86 c14_i32
  let c1_i32_87 : BitVec 32 := 1#32
  ⟨c0_i32_86, v86, c1_i32_87⟩
def k0_mult1 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32 : BitVec 32 := 128#32
  let v111 : BitVec 32 := Scalar.muli v110 c128_i32
  v111
def k0_off1 (k0_t1 : Fin k0_t1_loop.trips) : Fin 2 → Nat :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32 : BitVec 32 := 128#32
  let v111 : BitVec 32 := Scalar.muli v110 c128_i32
  let v112 : BitVec 32 := v111
  let v113 : Index := Scalar.indexCast v112
  let c0_110 : Index := 0#32
  ![v113.toNat, 0]
def k0_mult2 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c8_i32 : BitVec 32 := 8#32
  let v295 : BitVec 32 := Scalar.muli v110 c8_i32
  v295
def k0_off2 (k0_t1 : Fin k0_t1_loop.trips) : Fin 3 → Nat :=
  let c0_117 : Index := 0#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c8_i32 : BitVec 32 := 8#32
  let v295 : BitVec 32 := Scalar.muli v110 c8_i32
  let v296 : BitVec 32 := v295
  let v297 : Index := Scalar.indexCast v296
  let c0_118 : Index := 0#32
  ![0, v297.toNat, 0]
def k0_mult3 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_119 : BitVec 32 := 128#32
  let v301 : BitVec 32 := Scalar.muli v110 c128_i32_119
  v301
def k0_mult4 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_519 : BitVec 32 := 128#32
  let v1281 : BitVec 32 := Scalar.muli v110 c128_i32_519
  v1281
def k0_off3 (i : grid0.Coords) (k0_t1 : Fin k0_t1_loop.trips) : Fin 3 → Nat :=
  let arg0 : BitVec 32 := BitVec.ofNat 32 (i 0).val
  let c2_i32 : BitVec 32 := 2#32
  let v0 : BitVec 32 := Scalar.remsi arg0 c2_i32
  let v1283 : Index := Scalar.indexCast v0
  let c0_520 : Index := 0#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_519 : BitVec 32 := 128#32
  let v1281 : BitVec 32 := Scalar.muli v110 c128_i32_519
  let v1282 : BitVec 32 := v1281
  let v1284 : Index := Scalar.indexCast v1282
  ![v1283.toNat, 0, v1284.toNat]
def k0_off4 (k0_t1 : Fin k0_t1_loop.trips) (c0_i32_523 : BitVec 32) : Fin 3 → Nat :=
  let c0_524 : Index := 0#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c2_i32_521 : BitVec 32 := 2#32
  let v1288 : BitVec 32 := Scalar.muli v110 c2_i32_521
  let c8_i32_522 : BitVec 32 := 8#32
  let v1289 : BitVec 32 := Scalar.muli v1288 c8_i32_522
  let v1290 : BitVec 32 := Scalar.addi v1289 c0_i32_523
  let v1291 : Index := Scalar.indexCast v1290
  let c0_525 : Index := 0#32
  ![0, v1291.toNat, 0]
def k0_mult5 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_531 : BitVec 32 := 128#32
  let v1302 : BitVec 32 := Scalar.muli v110 c128_i32_531
  v1302
def k0_mult6 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c8_i32_539 : BitVec 32 := 8#32
  let v1486 : BitVec 32 := Scalar.muli v110 c8_i32_539
  v1486
def k0_off5 (k0_t1 : Fin k0_t1_loop.trips) : Fin 3 → Nat :=
  let c1_540 : Index := 1#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c8_i32_539 : BitVec 32 := 8#32
  let v1486 : BitVec 32 := Scalar.muli v110 c8_i32_539
  let v1487 : BitVec 32 := v1486
  let v1488 : Index := Scalar.indexCast v1487
  let c0_541 : Index := 0#32
  ![1, v1488.toNat, 0]
def k0_mult7 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_542 : BitVec 32 := 128#32
  let v1492 : BitVec 32 := Scalar.muli v110 c128_i32_542
  v1492
def k0_mult8 (k0_t1 : Fin k0_t1_loop.trips) : BitVec 32 :=
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_961 : BitVec 32 := 128#32
  let v2472 : BitVec 32 := Scalar.muli v110 c128_i32_961
  v2472
def k0_off6 (i : grid0.Coords) (k0_t1 : Fin k0_t1_loop.trips) : Fin 3 → Nat :=
  let arg0 : BitVec 32 := BitVec.ofNat 32 (i 0).val
  let c2_i32 : BitVec 32 := 2#32
  let v0 : BitVec 32 := Scalar.remsi arg0 c2_i32
  let v2474 : Index := Scalar.indexCast v0
  let c128_962 : Index := 128#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c128_i32_961 : BitVec 32 := 128#32
  let v2472 : BitVec 32 := Scalar.muli v110 c128_i32_961
  let v2473 : BitVec 32 := v2472
  let v2475 : Index := Scalar.indexCast v2473
  ![v2474.toNat, 128, v2475.toNat]
def k0_off7 (k0_t1 : Fin k0_t1_loop.trips) (c0_i32_965 : BitVec 32) : Fin 3 → Nat :=
  let c1_966 : Index := 1#32
  let c0_i32_109 : BitVec 32 := 0#32
  let c0_i32_86 : BitVec 32 := 0#32
  let c1_i32_87 : BitVec 32 := 1#32
  let arg14 : BitVec 32 := Scf.iv c0_i32_86 c1_i32_87 k0_t1
  let c1_i32_108 : BitVec 32 := 1#32
  let v109 : BitVec 32 := Scalar.muli arg14 c1_i32_108
  let v110 : BitVec 32 := Scalar.addi c0_i32_109 v109
  let c2_i32_963 : BitVec 32 := 2#32
  let v2479 : BitVec 32 := Scalar.muli v110 c2_i32_963
  let c8_i32_964 : BitVec 32 := 8#32
  let v2480 : BitVec 32 := Scalar.muli v2479 c8_i32_964
  let v2481 : BitVec 32 := Scalar.addi v2480 c0_i32_965
  let v2482 : Index := Scalar.indexCast v2481
  let c0_967 : Index := 0#32
  ![1, v2482.toNat, 0]
def k0_cond2 (i : grid0.Coords) : BitVec 1 :=
  let arg0 : BitVec 32 := BitVec.ofNat 32 (i 0).val
  let c0_i32_80 : BitVec 32 := 0#32
  let v79 : BitVec 1 := Scalar.cmpi .sgt arg0 c0_i32_80
  let v80 : BitVec 32 := Scalar.extui v79
  let c0_i32_81 : BitVec 32 := 0#32
  let v81 : BitVec 1 := Scalar.cmpi .ne v80 c0_i32_81
  v81

@[reducible] def k0_t2_loop : Scf.Loop 32 :=
  let c0_i32_82 : BitVec 32 := 0#32
  let c7_i32 : BitVec 32 := 7#32
  let v82 : BitVec 32 := Scalar.addi c0_i32_82 c7_i32
  let c1_i32_83 : BitVec 32 := 1#32
  ⟨c0_i32_82, v82, c1_i32_83⟩
def k0_off8 (i : grid0.Coords) : Fin 3 → Nat :=
  let c1_i32_106 : BitVec 32 := 1#32
  let arg0 : BitVec 32 := BitVec.ofNat 32 (i 0).val
  let c2_i32 : BitVec 32 := 2#32
  let v0 : BitVec 32 := Scalar.remsi arg0 c2_i32
  let v107 : BitVec 32 := Scalar.subi c1_i32_106 v0
  let v108 : Index := Scalar.indexCast v107
  let c0_107 : Index := 0#32
  let c0_108 : Index := 0#32
  ![v108.toNat, 0, 0]
def k0_mult9 (k0_t2 : Fin k0_t2_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c512_i32 : BitVec 32 := 512#32
  let v111 : BitVec 32 := Scalar.muli v106 c512_i32
  v111
def k0_off9 (k0_t2 : Fin k0_t2_loop.trips) : Fin 2 → Nat :=
  let c0_109 : Index := 0#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c512_i32 : BitVec 32 := 512#32
  let v111 : BitVec 32 := Scalar.muli v106 c512_i32
  let v112 : BitVec 32 := v111
  let v113 : Index := Scalar.indexCast v112
  ![0, v113.toNat]
def k0_mult10 (k0_t2 : Fin k0_t2_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c512_i32_111 : BitVec 32 := 512#32
  let v119 : BitVec 32 := Scalar.muli v106 c512_i32_111
  v119
def k0_off10 (k0_t2 : Fin k0_t2_loop.trips) : Fin 2 → Nat :=
  let c0_112 : Index := 0#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c512_i32_111 : BitVec 32 := 512#32
  let v119 : BitVec 32 := Scalar.muli v106 c512_i32_111
  let v120 : BitVec 32 := v119
  let v121 : Index := Scalar.indexCast v120
  ![0, v121.toNat]
@[reducible] def k0_t3_loop : Scf.Loop 32 :=
  let c0_i32_113 : BitVec 32 := 0#32
  let c2_i32_114 : BitVec 32 := 2#32
  let v123 : BitVec 32 := Scalar.addi c0_i32_113 c2_i32_114
  let c1_i32_115 : BitVec 32 := 1#32
  ⟨c0_i32_113, v123, c1_i32_115⟩
def k0_mult11 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c128_i32 : BitVec 32 := 128#32
  let v128 : BitVec 32 := Scalar.muli v127 c128_i32
  v128
def k0_off11 (k0_t2 : Fin k0_t2_loop.trips) (k0_t3 : Fin k0_t3_loop.trips) : Fin 2 → Nat :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c128_i32 : BitVec 32 := 128#32
  let v128 : BitVec 32 := Scalar.muli v127 c128_i32
  let v129 : BitVec 32 := v128
  let v130 : Index := Scalar.indexCast v129
  let c0_120 : Index := 0#32
  ![v130.toNat, 0]
def k0_mult12 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c8_i32 : BitVec 32 := 8#32
  let v312 : BitVec 32 := Scalar.muli v127 c8_i32
  v312
def k0_off12 (k0_t2 : Fin k0_t2_loop.trips) (k0_t3 : Fin k0_t3_loop.trips) : Fin 3 → Nat :=
  let c0_127 : Index := 0#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c8_i32 : BitVec 32 := 8#32
  let v312 : BitVec 32 := Scalar.muli v127 c8_i32
  let v313 : BitVec 32 := v312
  let v314 : Index := Scalar.indexCast v313
  let c0_128 : Index := 0#32
  ![0, v314.toNat, 0]
def k0_mult13 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c128_i32_129 : BitVec 32 := 128#32
  let v318 : BitVec 32 := Scalar.muli v127 c128_i32_129
  v318
def k0_mult14 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c128_i32_529 : BitVec 32 := 128#32
  let v1298 : BitVec 32 := Scalar.muli v127 c128_i32_529
  v1298
def k0_off13 (i : grid0.Coords) (k0_t2 : Fin k0_t2_loop.trips) (k0_t3 : Fin k0_t3_loop.trips) : Fin 3 → Nat :=
  let arg0 : BitVec 32 := BitVec.ofNat 32 (i 0).val
  let c2_i32 : BitVec 32 := 2#32
  let v0 : BitVec 32 := Scalar.remsi arg0 c2_i32
  let v1300 : Index := Scalar.indexCast v0
  let c0_530 : Index := 0#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c128_i32_529 : BitVec 32 := 128#32
  let v1298 : BitVec 32 := Scalar.muli v127 c128_i32_529
  let v1299 : BitVec 32 := v1298
  let v1301 : Index := Scalar.indexCast v1299
  ![v1300.toNat, 0, v1301.toNat]
def k0_off14 (k0_t2 : Fin k0_t2_loop.trips) (k0_t3 : Fin k0_t3_loop.trips) (c0_i32_533 : BitVec 32) : Fin 3 → Nat :=
  let c0_534 : Index := 0#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_119 : BitVec 32 := 2#32
  let v126 : BitVec 32 := Scalar.muli v106 c2_i32_119
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v127 : BitVec 32 := Scalar.addi v126 v125
  let c2_i32_531 : BitVec 32 := 2#32
  let v1305 : BitVec 32 := Scalar.muli v127 c2_i32_531
  let c8_i32_532 : BitVec 32 := 8#32
  let v1306 : BitVec 32 := Scalar.muli v1305 c8_i32_532
  let v1307 : BitVec 32 := Scalar.addi v1306 c0_i32_533
  let v1308 : Index := Scalar.indexCast v1307
  let c0_535 : Index := 0#32
  ![0, v1308.toNat, 0]
def k0_mult15 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c128_i32_542 : BitVec 32 := 128#32
  let v1321 : BitVec 32 := Scalar.muli v1320 c128_i32_542
  v1321
def k0_mult16 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c8_i32_550 : BitVec 32 := 8#32
  let v1505 : BitVec 32 := Scalar.muli v1320 c8_i32_550
  v1505
def k0_off15 (k0_t2 : Fin k0_t2_loop.trips) (k0_t3 : Fin k0_t3_loop.trips) : Fin 3 → Nat :=
  let c1_551 : Index := 1#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c8_i32_550 : BitVec 32 := 8#32
  let v1505 : BitVec 32 := Scalar.muli v1320 c8_i32_550
  let v1506 : BitVec 32 := v1505
  let v1507 : Index := Scalar.indexCast v1506
  let c0_552 : Index := 0#32
  ![1, v1507.toNat, 0]
def k0_mult17 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c128_i32_553 : BitVec 32 := 128#32
  let v1511 : BitVec 32 := Scalar.muli v1320 c128_i32_553
  v1511
def k0_mult18 (k0_t2 : Fin k0_t2_loop.trips) (k0_t3 : Fin k0_t3_loop.trips) : BitVec 32 :=
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c128_i32_972 : BitVec 32 := 128#32
  let v2491 : BitVec 32 := Scalar.muli v1320 c128_i32_972
  v2491
def k0_off16 (i : grid0.Coords) (k0_t2 : Fin k0_t2_loop.trips) (k0_t3 : Fin k0_t3_loop.trips) : Fin 3 → Nat :=
  let arg0 : BitVec 32 := BitVec.ofNat 32 (i 0).val
  let c2_i32 : BitVec 32 := 2#32
  let v0 : BitVec 32 := Scalar.remsi arg0 c2_i32
  let v2493 : Index := Scalar.indexCast v0
  let c128_973 : Index := 128#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c128_i32_972 : BitVec 32 := 128#32
  let v2491 : BitVec 32 := Scalar.muli v1320 c128_i32_972
  let v2492 : BitVec 32 := v2491
  let v2494 : Index := Scalar.indexCast v2492
  ![v2493.toNat, 128, v2494.toNat]
def k0_off17 (k0_t2 : Fin k0_t2_loop.trips) (k0_t3 : Fin k0_t3_loop.trips) (c0_i32_976 : BitVec 32) : Fin 3 → Nat :=
  let c1_977 : Index := 1#32
  let c0_i32_105 : BitVec 32 := 0#32
  let c0_i32_82 : BitVec 32 := 0#32
  let c1_i32_83 : BitVec 32 := 1#32
  let arg14 : BitVec 32 := Scf.iv c0_i32_82 c1_i32_83 k0_t2
  let c1_i32_104 : BitVec 32 := 1#32
  let v105 : BitVec 32 := Scalar.muli arg14 c1_i32_104
  let v106 : BitVec 32 := Scalar.addi c0_i32_105 v105
  let c2_i32_541 : BitVec 32 := 2#32
  let v1319 : BitVec 32 := Scalar.muli v106 c2_i32_541
  let c0_i32_118 : BitVec 32 := 0#32
  let c0_i32_113 : BitVec 32 := 0#32
  let c1_i32_115 : BitVec 32 := 1#32
  let arg15 : BitVec 32 := Scf.iv c0_i32_113 c1_i32_115 k0_t3
  let c1_i32_117 : BitVec 32 := 1#32
  let v124 : BitVec 32 := Scalar.muli arg15 c1_i32_117
  let v125 : BitVec 32 := Scalar.addi c0_i32_118 v124
  let v1320 : BitVec 32 := Scalar.addi v1319 v125
  let c2_i32_974 : BitVec 32 := 2#32
  let v2498 : BitVec 32 := Scalar.muli v1320 c2_i32_974
  let c8_i32_975 : BitVec 32 := 8#32
  let v2499 : BitVec 32 := Scalar.muli v2498 c8_i32_975
  let v2500 : BitVec 32 := Scalar.addi v2499 c0_i32_976
  let v2501 : Index := Scalar.indexCast v2500
  let c0_978 : Index := 0#32
  ![1, v2501.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c73_i32 : BitVec 32 := 73#32
  let v0 : BitVec 32 := Scalar.minsi arg0 c73_i32
  let c2_i32 : BitVec 32 := 2#32
  let v1 : BitVec 32 := Scalar.muli c2_i32 v0
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c73_i32 : BitVec 32 := 73#32
  let v0 : BitVec 32 := Scalar.minsi arg0 c73_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let c73_i32 : BitVec 32 := 73#32
  let v0 : BitVec 32 := Scalar.minsi arg0 c73_i32
  let c2_i32 : BitVec 32 := 2#32
  let v1 : BitVec 32 := Scalar.muli c2_i32 v0
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c73_i32 : BitVec 32 := 73#32
  let v0 : BitVec 32 := Scalar.minsi arg0 c73_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c73_i32 : BitVec 32 := 73#32
  let v0 : BitVec 32 := Scalar.minsi arg0 c73_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c73_i32 : BitVec 32 := 73#32
  let v0 : BitVec 32 := Scalar.minsi arg0 c73_i32
  let c0_i32 : BitVec 32 := 0#32
  let c0_i32_0 : BitVec 32 := 0#32
  ![v0.toNat, c0_i32.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x112 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S7x256x18944 : Shape := ⟨3, ![7, 256, 18944]⟩
abbrev S16 : Shape := ⟨1, ![16]⟩
abbrev S1 : Shape := ⟨1, ![1]⟩
abbrev S1792x3584 : Shape := ⟨2, ![1792, 3584]⟩
abbrev S16x16 : Shape := ⟨2, ![16, 16]⟩
abbrev S1x16 : Shape := ⟨2, ![1, 16]⟩
abbrev S_ : Shape := ⟨0, ![]⟩
abbrev S112x16x18944 : Shape := ⟨3, ![112, 16, 18944]⟩
abbrev S112x18944x16 : Shape := ⟨3, ![112, 18944, 16]⟩
abbrev S18944x112x16 : Shape := ⟨3, ![18944, 112, 16]⟩
abbrev S18944x3584 : Shape := ⟨2, ![18944, 3584]⟩
abbrev S18944x896 : Shape := ⟨2, ![18944, 896]⟩
abbrev S18944x112 : Shape := ⟨2, ![18944, 112]⟩
abbrev S18944x112x1 : Shape := ⟨3, ![18944, 112, 1]⟩
abbrev S18944x896x2 : Shape := ⟨3, ![18944, 896, 2]⟩
abbrev S18944x896x1 : Shape := ⟨3, ![18944, 896, 1]⟩
abbrev S18944x1792 : Shape := ⟨2, ![18944, 1792]⟩

abbrev nBuf : Space → Nat
  | .hbm => 22
  | .vmem => 6
  | .smem => 2
  | _ => 0

abbrev bufTy : (tb : Table) → Fin (tcTables nBuf tb) → BufTy
  | .hbm, ⟨0, _⟩ => ⟨S7x256x18944, .bf16⟩
  | .hbm, ⟨1, _⟩ => ⟨S16, .f32⟩
  | .hbm, ⟨2, _⟩ => ⟨S7x256x18944, .i8⟩
  | .hbm, ⟨3, _⟩ => ⟨S1, .f32⟩
  | .hbm, ⟨4, _⟩ => ⟨S1, .f32⟩
  | .hbm, ⟨5, _⟩ => ⟨S1792x3584, .bf16⟩
  | .hbm, ⟨6, _⟩ => ⟨S16x16, .f32⟩
  | .hbm, ⟨7, _⟩ => ⟨S1x16, .f32⟩
  | .hbm, ⟨8, _⟩ => ⟨S16x16, .f32⟩
  | .hbm, ⟨9, _⟩ => ⟨S16x16, .f32⟩
  | .hbm, ⟨10, _⟩ => ⟨S_, .f32⟩
  | .hbm, ⟨11, _⟩ => ⟨S16x16, .f32⟩
  | .hbm, ⟨12, _⟩ => ⟨S16x16, .f32⟩
  | .hbm, ⟨13, _⟩ => ⟨S7x256x18944, .f32⟩
  | .hbm, ⟨14, _⟩ => ⟨S112x16x18944, .f32⟩
  | .hbm, ⟨15, _⟩ => ⟨S112x18944x16, .f32⟩
  | .hbm, ⟨16, _⟩ => ⟨S18944x112x16, .f32⟩
  | .hbm, ⟨17, _⟩ => ⟨S112x16x18944, .i8⟩
  | .hbm, ⟨18, _⟩ => ⟨S18944x112x16, .i8⟩
  | .hbm, ⟨19, _⟩ => ⟨S18944x3584, .f32⟩
  | .hbm, ⟨20, _⟩ => ⟨S18944x896, .i8⟩
  | .hbm, ⟨21, _⟩ => ⟨S18944x112, .fp8e4m3⟩
  | .local _ .vmem, ⟨0, _⟩ => ⟨S18944x112x16, .f32⟩
  | .local _ .vmem, ⟨1, _⟩ => ⟨S18944x112x16, .i8⟩
  | .local _ .vmem, ⟨2, _⟩ => ⟨S1792x3584, .bf16⟩
  | .local _ .vmem, ⟨3, _⟩ => ⟨S18944x3584, .f32⟩
  | .local _ .vmem, ⟨4, _⟩ => ⟨S18944x896, .i8⟩
  | .local _ .vmem, ⟨5, _⟩ => ⟨S18944x112, .fp8e4m3⟩
  | .local _ .smem, ⟨0, _⟩ => ⟨S1, .f32⟩
  | .local _ .smem, ⟨1, _⟩ => ⟨S1, .f32⟩
  | _, _ => ⟨S7x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S18944x112x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x112x16 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18944x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18944x896 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18944x112 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Trips.lean ====
/- One trip of each counted loop of the kernel's body, run once at a symbolic trip: what it reads at its
   contents, what it writes at any, and the pieces it leaves. -/
module

public import proofs.«01_k».proof.Proof.Gen.KernelIdeal.Frame
public import proofs.«01_k».proof.Proof.Gen.KernelIdeal.Skeleton

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)
  (v0 : BitVec 32) (v12 v16 v20 v24 v28 v32 v36 v40 v44 v48 v52 v56 v60 v64 v68 v72 : F .f32) (v73 v74 : Elt F .f32)

/-- What one trip of `k0_t1_loop` leaves in the three scratch buffers, as pieces, and the run that finds them. -/
def trip1 (k0_h1 : k0_cond1 i = 1#1) (k : Fin k0_t1_loop.trips) (X3 : BufTy.Contents (Elt F) arg3.view.ty) (X4 : BufTy.Contents (Elt F) arg4.view.ty) (X5 : BufTy.Contents (Elt F) arg5.view.ty) (X6 : BufTy.Contents (Elt F) arg6.view.ty) :
    Σ' (L11 : List (View.Piece (Elt F) S2x256x1792 .bf16)) (L12 : List (View.Piece (Elt F) S2x224x128 .i32)) , { L13 : List (View.Piece (Elt F) S2x128x128 .f32) // ∀ (E : Set ℕ) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k PUnit.unit)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)))) } := by
  refine ⟨?_, ?_, ?_, fun E f11 f12 f13 => ?run⟩
  case run =>
    unfold k0_t1_body
    iintro ⟨H3, H4, H5, H6, H11, H12, H13⟩
    sl_exec
    sl_step
    sl_close

/-- What one trip of `k0_t3_loop` leaves in the three scratch buffers, as pieces, and the run that finds them. -/
def trip3 (k0_h2 : k0_cond2 i = 1#1) (j : Fin k0_t2_loop.trips) (v106 : BitVec 32) (k : Fin k0_t3_loop.trips) (X3 : BufTy.Contents (Elt F) arg3.view.ty) (X4 : BufTy.Contents (Elt F) arg4.view.ty) (X5 : BufTy.Contents (Elt F) arg5.view.ty) (X6 : BufTy.Contents (Elt F) arg6.view.ty) :
    Σ' (L11 : List (View.Piece (Elt F) S2x256x1792 .bf16)) (L12 : List (View.Piece (Elt F) S2x224x128 .i32)) , { L13 : List (View.Piece (Elt F) S2x128x128 .f32) // ∀ (E : Set ℕ) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k PUnit.unit)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)))) } := by
  refine ⟨?_, ?_, ?_, fun E f11 f12 f13 => ?run⟩
  case run =>
    unfold k0_t3_body
    iintro ⟨H3, H4, H5, H6, H11, H12, H13⟩
    sl_exec
    sl_step
    sl_close

end Cert.KernelIdeal.Hand

end
-- ==== Proof.Loops.lean ====
/- The counted loops of the kernel's body as invariants: a relation on the contents of the scratch buffers that one
   unit of quantisation carries from its number to the next is carried through the whole loop. -/
module

public import proofs.«01_k».proof.Proof.Gen.KernelIdeal.Frame
public import proofs.«01_k».proof.Proof.Trips

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)
  (v0 : BitVec 32) (v12 v16 v20 v24 v28 v32 v36 v40 v44 v48 v52 v56 v60 v64 v68 v72 : F .f32) (v73 v74 : Elt F .f32)

/-- The first step's loop over the units. -/
@[reducible] def inv1 (E : Set ℕ) (k0_h1 : k0_cond1 i = 1#1) (X3 : BufTy.Contents (Elt F) arg3.view.ty) (X4 : BufTy.Contents (Elt F) arg4.view.ty) (X5 : BufTy.Contents (Elt F) arg5.view.ty) (X6 : BufTy.Contents (Elt F) arg6.view.ty) (R : ℕ → BufTy.Contents (Elt F) arg11.view.ty → BufTy.Contents (Elt F) arg12.view.ty → BufTy.Contents (Elt F) arg13.view.ty → Prop)
    (hR : ∀ (k : Fin k0_t1_loop.trips) (f11 : BufTy.Contents (Elt F) arg11.view.ty) (f12 : BufTy.Contents (Elt F) arg12.view.ty) (f13 : BufTy.Contents (Elt F) arg13.view.ty), R k.val f11 f12 f13 →
      R (k.val + 1) (arg11.view.writes (Elt F) f11 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).1)
        (arg12.view.writes (Elt F) f12 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.1)
        (arg13.view.writes (Elt F) f13 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.2.1)) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1) where
  inv := fun k _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R k f11 f12 f13⌝)
  step := fun k acc => by
    iintro ⟨H3, H4, H5, H6, %f11, %f12, %f13, H11, H12, H13, %h⟩
    iapply (wp_wand_r Idealize.ShloMosaic.frame (wpE (defs₀ (F := F)) Variants.none (c : Thread nD τ) none) E)
    isplitl [H3 H4 H5 H6 H11 H12 H13]
    · iapply ((trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.2.2 E f11 f12 f13)
      isplitl [H3]; · iexact H3
      isplitl [H4]; · iexact H4
      isplitl [H5]; · iexact H5
      isplitl [H6]; · iexact H6
      isplitl [H11]; · iexact H11
      isplitl [H12]; · iexact H12
      iexact H13
    iintro %_ ⟨H3, H4, H5, H6, H11, H12, H13⟩
    isplitl [H3]; · iexact H3
    isplitl [H4]; · iexact H4
    isplitl [H5]; · iexact H5
    isplitl [H6]; · iexact H6
    iexists _, _, _
    isplitl [H11]; · iexact H11
    isplitl [H12]; · iexact H12
    isplitl [H13]; · iexact H13
    ipureintro; exact hR k f11 f12 f13 h

/-- A later step's inner loop over the two units of one column block. -/
@[reducible] def inv3 (E : Set ℕ) (k0_h2 : k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (j : Fin k0_t2_loop.trips) (v106 : BitVec 32) (R : ℕ → BufTy.Contents (Elt F) arg11.view.ty → BufTy.Contents (Elt F) arg12.view.ty → BufTy.Contents (Elt F) arg13.view.ty → Prop)
    (hR : ∀ (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.2.1)) :
    Idealize.ShloMosaic.LoopInv (M := 𝕄) Idealize.ShloMosaic.frame (wpE (defs₀ (F := F)) Variants.none (c : Thread nD τ) none) E
      k0_t3_loop.lb k0_t3_loop.ub k0_t3_loop.st (k0_t3_ok i k0_h2) () (k0_t3_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106) where
  inv := fun k _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R (2 * j.val + k) f11 f12 f13⌝)
  step := fun k acc => by
    iintro ⟨H3, H4, H5, H6, %f11, %f12, %f13, H11, H12, H13, %h⟩
    iapply (wp_wand_r Idealize.ShloMosaic.frame (wpE (defs₀ (F := F)) Variants.none (c : Thread nD τ) none) E)
    isplitl [H3 H4 H5 H6 H11 H12 H13]
    · iapply ((trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.2.2 E f11 f12 f13)
      isplitl [H3]; · iexact H3
      isplitl [H4]; · iexact H4
      isplitl [H5]; · iexact H5
      isplitl [H6]; · iexact H6
      isplitl [H11]; · iexact H11
      isplitl [H12]; · iexact H12
      iexact H13
    iintro %_ ⟨H3, H4, H5, H6, H11, H12, H13⟩
    isplitl [H3]; · iexact H3
    isplitl [H4]; · iexact H4
    isplitl [H5]; · iexact H5
    isplitl [H6]; · iexact H6
    iexists _, _, _
    isplitl [H11]; · iexact H11
    isplitl [H12]; · iexact H12
    isplitl [H13]; · iexact H13
    ipureintro; exact hR k f11 f12 f13 h

/-- A later step's outer loop: one column block of the products from the other slot, then two units. -/
@[reducible] def inv2 (E : Set ℕ) (k0_h2 : k0_cond2 i = 1#1) (v75 : Elt F .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (R : ℕ → BufTy.Contents (Elt F) arg11.view.ty → BufTy.Contents (Elt F) arg12.view.ty → BufTy.Contents (Elt F) arg13.view.ty → Prop) (R8 : ℕ → BufTy.Contents (Elt F) arg8.view.ty → Prop)
    (hR : ∀ (j : Fin k0_t2_loop.trips) (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).2.2.1))
    (hR8 : ∀ (j : Fin k0_t2_loop.trips) (f8 : BufTy.Contents (Elt F) arg8.view.ty) (f11 : BufTy.Contents (Elt F) arg11.view.ty) (f12 : BufTy.Contents (Elt F) arg12.view.ty) (f13 : BufTy.Contents (Elt F) arg13.view.ty), R8 j.val f8 → R (2 * j.val) f11 f12 f13 →
      R8 (j.val + 1) (arg8.view.writes (Elt F) f8
        [⟨(Rect.unit (s := S256x3584) (k0_off10 j) S256x512.size (k0_off10_inb i j k0_h2)),
          k0_pay1 v75 (View.readAt (Elt F) arg11.view (Rect.unit (s := S2x256x1792) (k0_off8 i) S1x256x1792.size (k0_off8_inb i k0_h2)).toLoadRect f11)
            (View.readAt (Elt F) arg7.view (Rect.unit (s := S1792x3584) (k0_off9 j) S1792x512.size (k0_off9_inb i j k0_h2)).toLoadRect X7)⟩])) :
    Idealize.ShloMosaic.LoopInv (M := 𝕄) Idealize.ShloMosaic.frame (wpE (defs₀ (F := F)) Variants.none (c : Thread nD τ) none) E
      k0_t2_loop.lb k0_t2_loop.ub k0_t2_loop.st (k0_t2_ok i k0_h2) () (k0_t2_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 v75 k0_h2) where
  inv := fun j _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f11 f12 f13, (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R8 j f8 ∧ R (2 * j) f11 f12 f13⌝)
  step := fun j acc => by
    iintro ⟨H3, H4, H5, H6, H7, %f8, %f11, %f12, %f13, H8, H11, H12, H13, %h⟩
    obtain ⟨h8, h⟩ := h
    unfold k0_t2_body
    let L := inv3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 E k0_h2 X3 X4 X5 X6 j (Scalar.addi 0#32 (Scalar.muli (Scf.iv 0#32 1#32 j) 1#32)) R (hR j)
    sl_exec
    sl_step
    isplitl [H3]; · iexact H3
    isplitl [H4]; · iexact H4
    isplitl [H5]; · iexact H5
    isplitl [H6]; · iexact H6
    isplitl [H7]; · iexact H7
    iexists _, _, _, _
    isplitl [H8]; · iexact H8
    isplitl [H11]; · iexact H11
    isplitl [H12]; · iexact H12
    isplitl [H13]; · iexact H13
    ipureintro
    have e : 2 * (j.val + 1) = 2 * j.val + Scf.trips k0_t3_loop.lb k0_t3_loop.ub k0_t3_loop.st := by
      rw [show Scf.trips k0_t3_loop.lb k0_t3_loop.ub k0_t3_loop.st = 2 from by decide]; omega
    refine ⟨hR8 j f8 f11 f12 f13 h8 h, ?_⟩
    rw [e]; assumption

end Cert.KernelIdeal.Hand

end
-- ==== Proof.Runs.lean ====
/- The kernel's body run once per case of its conditionals, for any relation the units carry. -/
module

public import proofs.«01_k».proof.Proof.Gen.KernelIdeal.Frame
public import proofs.«01_k».proof.Proof.Loops

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The word of `arg1` at place `o`, its bit `b` read as a sign: `-1` when set, `1` otherwise. -/
def sgn (arg1 : Memref sig .tc .smem S8 .i32) (X1 : BufTy.Contents (Elt F) arg1.view.ty) (o : Fin 1 → ℕ)
    (ho : ∀ d, o d + S1.size d ≤ S8.size d) (b : BitVec 32) : F .f32 :=
  Scalar.select (Scalar.cmpi .ne (Scalar.andi (Scalar.shrui
    (View.readAt (Elt F) arg1.view (Rect.unit (s := S8) o S1.size ho).toLoadRect X1 (Shape.Idx.first (numel1_S1 ▸ Nat.one_pos))) b) 1#32) 0#32)
    (Scalar.ofBits .f32 0xBF800000#32) (Scalar.ofBits .f32 0x3F800000#32)

/-- The scalar of `arg2` at place `o`. -/
def scl (arg2 : Memref sig .tc .smem S3 .f32) (X2 : BufTy.Contents (Elt F) arg2.view.ty) (o : Fin 1 → ℕ)
    (ho : ∀ d, o d + S1.size d ≤ S3.size d) : Elt F .f32 :=
  View.readAt (Elt F) arg2.view (Rect.unit (s := S3) o S1.size ho).toLoadRect X2 (Shape.Idx.first (numel1_S1 ▸ Nat.one_pos))

/-- What a step writes to the block of codes, from the packed words of `arg12`. -/
def P9 (arg12 : Memref sig .tc .vmem S2x224x128 .i32) (f12 : BufTy.Contents (Elt F) arg12.view.ty) : List (View.Piece (Elt F) S256x896 .i8) :=
  [⟨Rect.unit (s := S256x896) ![128, 0] S128x896.size inb_S256x896_S128x896_128_0,
      k0_pay7 (View.readAt (Elt F) arg12.view (Rect.unit (s := S2x224x128) ![1, 0, 0] S1x224x128.size inb_S2x224x128_S1x224x128_1_0_0).toLoadRect f12)⟩,
   ⟨Rect.unit (s := S256x896) ![0, 0] S128x896.size inb_S256x896_S128x896_0_0,
      k0_pay5 (View.readAt (Elt F) arg12.view (Rect.unit (s := S2x224x128) ![0, 0, 0] S1x224x128.size inb_S2x224x128_S1x224x128_0_0_0).toLoadRect f12)⟩]

/-- What a step writes to the block of scales, from the scales of `arg13`. -/
def P10 (arg13 : Memref sig .tc .vmem S2x128x128 .f32) (f13 : BufTy.Contents (Elt F) arg13.view.ty) : List (View.Piece (Elt F) S256x112 .fp8e4m3) :=
  [⟨Rect.unit (s := S256x112) ![128, 0] S128x112.size inb_S256x112_S128x112_128_0,
      k0_pay8 (View.readAt (Elt F) arg13.view (Rect.unit (s := S2x128x128) ![1, 0, 0] S1x128x128.size inb_S2x128x128_S1x128x128_1_0_0).toLoadRect f13)⟩,
   ⟨Rect.unit (s := S256x112) ![0, 0] S128x112.size inb_S256x112_S128x112_0_0,
      k0_pay6 (View.readAt (Elt F) arg13.view (Rect.unit (s := S2x128x128) ![0, 0, 0] S1x128x128.size inb_S2x128x128_S1x128x128_0_0_0).toLoadRect f13)⟩]

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)

/-- The first step: the scales cleared, then all units quantised. -/
theorem runA (hc1 : k0_cond1 i = 1#1) (hc2 : ¬ k0_cond2 i = 1#1) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (R : ℕ → BufTy.Contents (Elt F) arg11.view.ty → BufTy.Contents (Elt F) arg12.view.ty → BufTy.Contents (Elt F) arg13.view.ty → Prop) (hR : ∀ (k : Fin k0_t1_loop.trips) (f11 : BufTy.Contents (Elt F) arg11.view.ty) (f12 : BufTy.Contents (Elt F) arg12.view.ty) (f13 : BufTy.Contents (Elt F) arg13.view.ty), R (k.val) f11 f12 f13 →
      R (k.val + 1) (arg11.view.writes (Elt F) f11 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).1)
        (arg12.view.writes (Elt F) f12 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.1)
        (arg13.view.writes (Elt F) f13 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.2.1))
    (h0 : ∀ f13, R 0 f11 f12 (arg13.view.writes (Elt F) f13 [⟨Rect.unit (s := S2x128x128) ![0, 0, 0] S2x128x128.size inb_S2x128x128_S2x128x128_0_0_0, k0_pay403 (F := F)⟩])) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0_quantise_dy_dw (F := F) i arg1 harg1 arg2 harg2 arg3 harg3 arg4 harg4 arg5 harg5 arg6 harg6 arg7 harg7 arg8 harg8 arg9 harg9 arg10 harg10 arg11 harg11 arg12 harg12 arg13 harg13)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f9 f10 f11 f12 f13, (arg8.view.loc (c : Thread nD τ) ↦[arg8.view.set]{fullShare} f8) ∗ (arg9.view.loc (c : Thread nD τ) ↦[arg9.view.set]{fullShare} (arg9.view.writes (Elt F) f9 (P9 arg12 f12))) ∗ (arg10.view.loc (c : Thread nD τ) ↦[arg10.view.set]{fullShare} (arg10.view.writes (Elt F) f10 (P10 arg13 f13))) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R 14 f11 f12 f13⌝)) := by
  simp only [cc0_quantise_dy_dw_eq_skeleton]; unfold cc0_quantise_dy_dw_skel
  simp only [k0_part112_eq_skeleton, k0_part113_eq_skeleton, k0_part114_eq_skeleton, k0_part56_eq_skeleton]
  let L := inv1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) E hc1 X3 X4 X5 X6 R hR
  iintro ⟨H1, H2, H3, H4, H5, H6, H7, H8, H9, H10, H11, H12, H13⟩
  have h0' := h0 arg13.view.junk
  sl_exec (disch := first | sl_exact hc1 | sl_exact hc2 | sl_exact h0')
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _, _, _, _, _, _
  isplitl [H8]; · iexact H8
  isplitl [H9]; · iexact H9
  isplitl [H10]; · iexact H10
  isplitl [H11]; · iexact H11
  isplitl [H12]; · iexact H12
  isplitl [H13]; · iexact H13
  ipureintro
  assumption

/-- A later step: the products of the other slot column block by column block, the units quantised in between. -/
theorem runB (hc1 : ¬ k0_cond1 i = 1#1) (hc2 : k0_cond2 i = 1#1) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (R : ℕ → BufTy.Contents (Elt F) arg11.view.ty → BufTy.Contents (Elt F) arg12.view.ty → BufTy.Contents (Elt F) arg13.view.ty → Prop) (R8 : ℕ → BufTy.Contents (Elt F) arg8.view.ty → Prop)
    (hR : ∀ (j : Fin k0_t2_loop.trips) (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).2.2.1))
    (hR8 : ∀ (j : Fin k0_t2_loop.trips) (f8 : BufTy.Contents (Elt F) arg8.view.ty) (f11 : BufTy.Contents (Elt F) arg11.view.ty) (f12 : BufTy.Contents (Elt F) arg12.view.ty) (f13 : BufTy.Contents (Elt F) arg13.view.ty), R8 j.val f8 → R (2 * j.val) f11 f12 f13 →
      R8 (j.val + 1) (arg8.view.writes (Elt F) f8
        [⟨(Rect.unit (s := S256x3584) (k0_off10 j) S256x512.size (k0_off10_inb i j hc2)),
          k0_pay1 (scl arg2 X2 ![2] inb_S3_S1_2) (View.readAt (Elt F) arg11.view (Rect.unit (s := S2x256x1792) (k0_off8 i) S1x256x1792.size (k0_off8_inb i hc2)).toLoadRect f11)
            (View.readAt (Elt F) arg7.view (Rect.unit (s := S1792x3584) (k0_off9 j) S1792x512.size (k0_off9_inb i j hc2)).toLoadRect X7)⟩])) (h0 : R8 0 f8 ∧ R (2 * 0) f11 f12 f13) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0_quantise_dy_dw (F := F) i arg1 harg1 arg2 harg2 arg3 harg3 arg4 harg4 arg5 harg5 arg6 harg6 arg7 harg7 arg8 harg8 arg9 harg9 arg10 harg10 arg11 harg11 arg12 harg12 arg13 harg13)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f9 f10 f11 f12 f13, (arg8.view.loc (c : Thread nD τ) ↦[arg8.view.set]{fullShare} f8) ∗ (arg9.view.loc (c : Thread nD τ) ↦[arg9.view.set]{fullShare} (arg9.view.writes (Elt F) f9 (P9 arg12 f12))) ∗ (arg10.view.loc (c : Thread nD τ) ↦[arg10.view.set]{fullShare} (arg10.view.writes (Elt F) f10 (P10 arg13 f13))) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R8 7 f8 ∧ R 14 f11 f12 f13⌝)) := by
  simp only [cc0_quantise_dy_dw_eq_skeleton]; unfold cc0_quantise_dy_dw_skel
  simp only [k0_part112_eq_skeleton, k0_part113_eq_skeleton, k0_part114_eq_skeleton, k0_part56_eq_skeleton]
  let L := inv2 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) E hc2 (scl arg2 X2 ![2] inb_S3_S1_2) X3 X4 X5 X6 X7 R R8 hR hR8
  iintro ⟨H1, H2, H3, H4, H5, H6, H7, H8, H9, H10, H11, H12, H13⟩
  sl_exec (disch := first | sl_exact hc1 | sl_exact hc2 | sl_exact h0)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _, _, _, _, _, _
  isplitl [H8]; · iexact H8
  isplitl [H9]; · iexact H9
  isplitl [H10]; · iexact H10
  isplitl [H11]; · iexact H11
  isplitl [H12]; · iexact H12
  isplitl [H13]; · iexact H13
  ipureintro
  assumption

end Cert.KernelIdeal.Hand

end
-- ==== Proof.FrameW.lean ====
/- The frame of the kernel's program: every run ends, the arguments are unchanged and every counter is zero.
   The scratch buffers are owned at some contents at every point, and of the outputs nothing is named. -/
module

public import proofs.«01_k».proof.Proof.Gen.KernelIdeal.Frame
public import proofs.«01_k».proof.Proof.Runs
public import proofs.«01_k».proof.Proof.Gen.KernelIdeal.Points
public import Idealize.ShloMosaic.Lib.Claim

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 75 = 0 :=
  (fun t => by
    have ht : t.val < 75 := Nat.lt_of_lt_of_eq t.isLt N_0
    have e0 : (grid0.coords t 0).val = t.val / 1 % 75 := Pipeline.Grid.coords_val t 0 (by decide) rfl
    simp only [cond0_0, k0_cond1, e0]
    word_cmp
   : ∀ t : Fin grid0.N, cond0_0 (grid0.coords t) ↔ t.val % 75 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x3584 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x896 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x112 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x256x1792 .bf16 := Memref.whole cc0_scratch0
abbrev scM0_1 : Memref sig .tc .vmem S2x224x128 .i32 := Memref.whole cc0_scratch1
abbrev scM0_2 : Memref sig .tc .vmem S2x128x128 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them; after the body each input's
    buffer at its block, the outputs not named; the scratch buffers at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

theorem bodyA {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : k0_cond1 i = 1#1) (h2 : ¬ k0_cond2 i = 1#1)
    (x1 : Vec F S8 .i32) (x2 : Vec F S3 .f32) (x3 : Vec F S1792x128 .bf16) (x4 : Vec F S1792x128 .bf16) (x5 : Vec F S1792x128 .i8) (x6 : Vec F S1792x128 .i8) (x7 : Vec F S1792x3584 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0_quantise_dy_dw (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := F)) Variants.none (c : Thread nD τ) none) Set.univ)
  isplitl [H1 H2 H3 H4 H5 H6 H7 H8 H9 H10 H11 H12 H13]
  · iapply (runA (F := F) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun _ _ _ _ => True) (fun _ _ _ _ _ => trivial) (fun _ => trivial))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %_⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

theorem bodyB {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : ¬ k0_cond1 i = 1#1) (h2 : k0_cond2 i = 1#1)
    (x1 : Vec F S8 .i32) (x2 : Vec F S3 .f32) (x3 : Vec F S1792x128 .bf16) (x4 : Vec F S1792x128 .bf16) (x5 : Vec F S1792x128 .i8) (x6 : Vec F S1792x128 .i8) (x7 : Vec F S1792x3584 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0_quantise_dy_dw (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := F)) Variants.none (c : Thread nD τ) none) Set.univ)
  isplitl [H1 H2 H3 H4 H5 H6 H7 H8 H9 H10 H11 H12 H13]
  · iapply (runB (F := F) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun _ _ _ _ => True) (fun _ _ => True) (fun _ _ _ _ _ _ => trivial) (fun _ _ _ _ _ _ _ => trivial) ⟨trivial, trivial⟩)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %_⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 75 := lt_of_lt_of_eq t.isLt (show cfg0.N = 75 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 75 = 0
  · have h1 : ¬ 1 ≤ t.val := by omega
    iapply (bodyA (F := F) (c := c) (i := grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h1 : 1 ≤ t.val := by omega
    iapply (bodyB (F := F) (c := c) (i := grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frameR_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Steps.lean ====
/- What the stores of one unit leave in the three scratch buffers, read at any place. -/
module

public import proofs.«01_k».proof.Proof.Gen.KernelIdeal.Frame
public import proofs.«01_k».proof.Proof.Gen.KernelIdeal.Skeleton
public import Idealize.ShloMosaic.Lib.Pointwise
public import Idealize.ShloMosaic.Lib.WritesUnit

@[expose] public section

set_option maxRecDepth 16384

noncomputable section

namespace Cert.KernelIdeal.Hand

open Idealize.ShloMosaic
open Cert.KernelIdeal.Gen

variable {sig : RefSig} {κ : Kind} {sp : Space} {Val : EltTy → Type} {e : EltTy}

/-- The scales' buffer after the two stores of a unit. -/
theorem step13 (v : View sig κ sp S2x128x128 e) (f : v.ty.Contents Val) (n : ℕ) (o1 o0 : Fin 3 → ℕ)
    (inb1 inb0) (h1 : o1 = ![1, 8 * n, 0]) (h0 : o0 = ![0, 8 * n, 0]) (A1 A0 : S1x8x128.Idx → Val e)
    (c : Fin 2) (G l : Fin 128) :
    v.read Val (v.writes Val f [⟨Rect.unit (s := S2x128x128) o1 S1x8x128.size inb1, A1⟩,
      ⟨Rect.unit (s := S2x128x128) o0 S1x8x128.size inb0, A0⟩]) (ix3 c G l) =
    if h : 8 * n ≤ G.val ∧ G.val < 8 * n + 8 then (if c = 1 then A1 else A0) (ix3 0 ⟨G.val - 8 * n, by omega⟩ l)
    else v.read Val f (ix3 c G l) := by
  by_cases h : 8 * n ≤ G.val ∧ G.val < 8 * n + 8
  · rw [dif_pos h]
    by_cases hc : c = 1
    · subst hc
      rw [if_pos rfl]
      refine View.read_writes_cons_unit_of_mem v f inb1 A1 _ _ (ix3 0 ⟨G.val - 8 * n, by omega⟩ l) h1 ?_
      intro a
      fin_cases a
      · rfl
      · show G.val = 8 * n + (G.val - 8 * n); omega
      · show l.val = 0 + l.val; omega
    · have hc : c = 0 := by omega
      subst hc
      rw [if_neg (by decide)]
      rw [View.read_writes_cons_unit_of_not_mem v f inb1 A1 _ _ h1 0 (Or.inl (by show 0 < 1; omega))]
      refine View.read_writes_cons_unit_of_mem v f inb0 A0 _ _ (ix3 0 ⟨G.val - 8 * n, by omega⟩ l) h0 ?_
      intro a
      fin_cases a
      · rfl
      · show G.val = 8 * n + (G.val - 8 * n); omega
      · show l.val = 0 + l.val; omega
  · rw [dif_neg h]
    rw [View.read_writes_cons_unit_of_not_mem v f inb1 A1 _ _ h1 1 (by show G.val < 8 * n ∨ 8 * n + 8 ≤ G.val; omega),
      View.read_writes_cons_unit_of_not_mem v f inb0 A0 _ _ h0 1 (by show G.val < 8 * n ∨ 8 * n + 8 ≤ G.val; omega)]
    rfl

/-- The dequantised operand's buffer after the two stores of a unit. -/
theorem step11 (v : View sig κ sp S2x256x1792 e) (f : v.ty.Contents Val) (n sl : ℕ) (o1 o0 : Fin 3 → ℕ)
    (inb1 inb0) (h1 : o1 = ![sl, 128, 128 * n]) (h0 : o0 = ![sl, 0, 128 * n]) (A1 A0 : S1x128x128.Idx → Val e)
    (c : Fin 2) (p : Fin 256) (q : Fin 1792) :
    v.read Val (v.writes Val f [⟨Rect.unit (s := S2x256x1792) o1 S1x128x128.size inb1, A1⟩,
      ⟨Rect.unit (s := S2x256x1792) o0 S1x128x128.size inb0, A0⟩]) (ix3 c p q) =
    if h : c.val = sl ∧ 128 * n ≤ q.val ∧ q.val < 128 * n + 128 then
      (if 128 ≤ p.val then A1 else A0) (ix3 0 ⟨p.val % 128, by omega⟩ ⟨q.val - 128 * n, by omega⟩)
    else v.read Val f (ix3 c p q) := by
  by_cases h : c.val = sl ∧ 128 * n ≤ q.val ∧ q.val < 128 * n + 128
  · rw [dif_pos h]
    by_cases hp : 128 ≤ p.val
    · rw [if_pos hp]
      refine View.read_writes_cons_unit_of_mem v f inb1 A1 _ _
        (ix3 0 ⟨p.val % 128, by omega⟩ ⟨q.val - 128 * n, by omega⟩) h1 ?_
      intro a
      fin_cases a
      · show c.val = sl + 0; omega
      · show p.val = 128 + p.val % 128; omega
      · show q.val = 128 * n + (q.val - 128 * n); omega
    · rw [if_neg hp]
      rw [View.read_writes_cons_unit_of_not_mem v f inb1 A1 _ _ h1 1 (Or.inl (by show p.val < 128; omega))]
      refine View.read_writes_cons_unit_of_mem v f inb0 A0 _ _
        (ix3 0 ⟨p.val % 128, by omega⟩ ⟨q.val - 128 * n, by omega⟩) h0 ?_
      intro a
      fin_cases a
      · show c.val = sl + 0; omega
      · show p.val = 0 + p.val % 128; omega
      · show q.val = 128 * n + (q.val - 128 * n); omega
  · rw [dif_neg h]
    by_cases hc : c.val = sl
    · rw [View.read_writes_cons_unit_of_not_mem v f inb1 A1 _ _ h1 2
          (by show q.val < 128 * n ∨ 128 * n + 128 ≤ q.val; omega),
        View.read_writes_cons_unit_of_not_mem v f inb0 A0 _ _ h0 2
          (by show q.val < 128 * n ∨ 128 * n + 128 ≤ q.val; omega)]
      rfl
    · rw [View.read_writes_cons_unit_of_not_mem v f inb1 A1 _ _ h1 0
          (by show c.val < sl ∨ sl + 1 ≤ c.val; omega),
        View.read_writes_cons_unit_of_not_mem v f inb0 A0 _ _ h0 0
          (by show c.val < sl ∨ sl + 1 ≤ c.val; omega)]
      rfl

/-- A store of every second row does not touch a place of another chunk, or of another parity, or outside. -/
theorem strided_miss (v : View sig κ sp S2x224x128 e) (f : v.ty.Contents Val) (o : Fin 3 → ℕ) (c' n' : ℕ) (inb)
    (ho : o = ![c', n', 0]) (A : S1x8x128.Idx → Val e) (L : List (View.Piece Val S2x224x128 e))
    (c : Fin 2) (ρ : Fin 224) (l : Fin 128)
    (hy : c.val ≠ c' ∨ ρ.val < n' ∨ n' + 16 ≤ ρ.val ∨ (ρ.val - n') % 2 = 1) :
    v.read Val (v.writes Val f (⟨⟨(⟨o, S1x8x128.size, ![1, 2, 1], inb⟩ : LoadRect S2x224x128), spos_1_2_1⟩, A⟩ :: L))
      (ix3 c ρ l) = v.read Val (v.writes Val f L) (ix3 c ρ l) := by
  subst ho
  apply View.read_writes_cons_miss
  intro hm
  have hm := (LoadRect.mem_set _).mp hm
  obtain ⟨j0, hj0, h0⟩ := hm 0
  obtain ⟨j1, hj1, h1⟩ := hm 1
  change c.val = c' + 1 * j0 at h0
  change ρ.val = n' + 2 * j1 at h1
  change j0 < 1 at hj0
  change j1 < 8 at hj1
  omega

/-- A store of every second row, read at one of its places. -/
theorem strided_hit (v : View sig κ sp S2x224x128 e) (f : v.ty.Contents Val) (o : Fin 3 → ℕ) (c' n' : ℕ) (inb)
    (ho : o = ![c', n', 0]) (A : S1x8x128.Idx → Val e) (L : List (View.Piece Val S2x224x128 e))
    (c : Fin 2) (ρ : Fin 224) (l : Fin 128) (g : Fin 8) (hc : c.val = c') (hρ : ρ.val = n' + 2 * g.val) :
    v.read Val (v.writes Val f (⟨⟨(⟨o, S1x8x128.size, ![1, 2, 1], inb⟩ : LoadRect S2x224x128), spos_1_2_1⟩, A⟩ :: L))
      (ix3 c ρ l) = A (ix3 0 g l) := by
  subst ho
  have key : ∀ (r : Rect S2x224x128) (w : r.shape.Idx → Val e) (x : r.shape.Idx),
      (∀ a, ((ix3 c ρ l : S2x224x128.Idx) a).val = r.off a + r.stride a * (x a).val) →
      v.read Val (v.writes Val f (⟨r, w⟩ :: L)) (ix3 c ρ l) = w x :=
    fun r w x hx => View.read_writes_cons_hit_of_coords v f r w L x _ hx
  apply key ⟨⟨![c', n', 0], S1x8x128.size, ![1, 2, 1], inb⟩, spos_1_2_1⟩ A (ix3 0 g l)
  intro a
  fin_cases a
  · show c.val = c' + 1 * 0; omega
  · show ρ.val = n' + 2 * g.val; omega
  · show l.val = 0 + 1 * l.val; omega

/-- The code words' buffer after the four stores of a unit. -/
theorem step12 (v : View sig κ sp S2x224x128 e) (f : v.ty.Contents Val) (n : ℕ) (o11 o10 o01 o00 : Fin 3 → ℕ)
    (inb11 inb10 inb01 inb00) (h11 : o11 = ![1, 16 * n + 1, 0]) (h10 : o10 = ![1, 16 * n + 0, 0])
    (h01 : o01 = ![0, 16 * n + 1, 0]) (h00 : o00 = ![0, 16 * n + 0, 0]) (A11 A10 A01 A00 : S1x8x128.Idx → Val e)
    (c : Fin 2) (ρ : Fin 224) (l : Fin 128) :
    v.read Val (v.writes Val f
      [⟨⟨(⟨o11, S1x8x128.size, ![1, 2, 1], inb11⟩ : LoadRect S2x224x128), spos_1_2_1⟩, A11⟩,
       ⟨⟨(⟨o10, S1x8x128.size, ![1, 2, 1], inb10⟩ : LoadRect S2x224x128), spos_1_2_1⟩, A10⟩,
       ⟨⟨(⟨o01, S1x8x128.size, ![1, 2, 1], inb01⟩ : LoadRect S2x224x128), spos_1_2_1⟩, A01⟩,
       ⟨⟨(⟨o00, S1x8x128.size, ![1, 2, 1], inb00⟩ : LoadRect S2x224x128), spos_1_2_1⟩, A00⟩]) (ix3 c ρ l) =
    if h : 16 * n ≤ ρ.val ∧ ρ.val < 16 * n + 16 then
      (if c = 1 then (if ρ.val % 2 = 1 then A11 else A10) else (if ρ.val % 2 = 1 then A01 else A00))
        (ix3 0 ⟨(ρ.val - 16 * n) / 2, by omega⟩ l)
    else v.read Val f (ix3 c ρ l) := by
  by_cases h : 16 * n ≤ ρ.val ∧ ρ.val < 16 * n + 16
  · rw [dif_pos h]
    by_cases hc : c = 1 <;> by_cases hr : ρ.val % 2 = 1
    · rw [if_pos hc, if_pos hr]
      subst hc
      exact strided_hit v f o11 1 _ inb11 h11 A11 _ _ _ _ _ rfl (by show ρ.val = _ + 2 * ((ρ.val - 16 * n) / 2); omega)
    · rw [if_pos hc, if_neg hr]
      subst hc
      rw [strided_miss v f o11 1 _ inb11 h11 A11 _ _ _ _ (by omega)]
      exact strided_hit v f o10 1 _ inb10 h10 A10 _ _ _ _ _ rfl (by show ρ.val = _ + 2 * ((ρ.val - 16 * n) / 2); omega)
    · rw [if_neg hc, if_pos hr]
      obtain rfl : c = 0 := by omega
      rw [strided_miss v f o11 1 _ inb11 h11 A11 _ _ _ _ (Or.inl (by decide)),
        strided_miss v f o10 1 _ inb10 h10 A10 _ _ _ _ (Or.inl (by decide))]
      exact strided_hit v f o01 0 _ inb01 h01 A01 _ _ _ _ _ rfl (by show ρ.val = _ + 2 * ((ρ.val - 16 * n) / 2); omega)
    · rw [if_neg hc, if_neg hr]
      obtain rfl : c = 0 := by omega
      rw [strided_miss v f o11 1 _ inb11 h11 A11 _ _ _ _ (Or.inl (by decide)),
        strided_miss v f o10 1 _ inb10 h10 A10 _ _ _ _ (Or.inl (by decide)),
        strided_miss v f o01 0 _ inb01 h01 A01 _ _ _ _ (by omega)]
      exact strided_hit v f o00 0 _ inb00 h00 A00 _ _ _ _ _ rfl (by show ρ.val = _ + 2 * ((ρ.val - 16 * n) / 2); omega)
  · rw [dif_neg h]
    rw [strided_miss v f o11 1 _ inb11 h11 A11 _ _ _ _ (by omega),
      strided_miss v f o10 1 _ inb10 h10 A10 _ _ _ _ (by omega),
      strided_miss v f o01 0 _ inb01 h01 A01 _ _ _ _ (by omega),
      strided_miss v f o00 0 _ inb00 h00 A00 _ _ _ _ (by omega)]
    rfl

end Cert.KernelIdeal.Hand

end
-- ==== Proof.Unit.lean ====
/- What one unit of 128 tokens becomes, as vector operations: the rotated tokens, the scales of its eight groups,
   the code words and the dequantised values. The printed body states the same operations four times. -/
module

public import proofs.«01_k».proof.Proof.Gen.KernelIdeal.Skeleton

@[expose] public section

set_option maxRecDepth 16384

noncomputable section

namespace Cert.KernelIdeal.Unit

open Idealize.ShloMosaic
open Cert.KernelIdeal.Gen

variable {F : FTy → Type} [FloatOps F]

theorem slices16 (t : Fin 16) : S8x16x128.Slices ![0, t.val, 0] S8x1x128 := by
  revert t; decide

theorem slices4 (q : Fin 4) : S8x4x128.Slices ![0, q.val, 0] S8x1x128 := by
  revert q; decide

/-- Token `t` of every group, with its sign. -/
def signed (V : Vec F S128x128 .bf16) (sg : Fin 16 → F .f32) (t : Fin 16) : FVec F S8x128 .f32 :=
  mulf (shapeCast S8x128 (extractStridedSlice S8x1x128 ![0, t.val, 0]
    (shapeCast S8x16x128 (extf .f32 (shapeCast S128x128 V shapeCasts_S128x128_S128x128 : FVec F S128x128 .bf16) bitsLt_bf16_f32)
      shapeCasts_S128x128_S8x16x128 : FVec F S8x16x128 .f32) (slices16 t)) shapeCasts_S8x1x128_S8x128) (broadcast S8x128 (sg t))

/-- One stage of the butterfly at distance `h`. -/
def stage (h : Nat) (x : Nat → FVec F S8x128 .f32) (j : Nat) : FVec F S8x128 .f32 :=
  if j / h % 2 = 0 then addf (x j) (x (j + h)) else subf (x (j - h)) (x j)

/-- The rotated tokens, times four. -/
def z (V : Vec F S128x128 .bf16) (sg : Fin 16 → F .f32) : Nat → FVec F S8x128 .f32 :=
  stage 8 (stage 4 (stage 2 (stage 1 (fun j => signed V sg (Fin.ofNat 16 j)))))

/-- The greatest magnitude of each group, times four. -/
def amax (V : Vec F S128x128 .bf16) (sg : Fin 16 → F .f32) : FVec F S8x128 .f32 :=
  have a := fun t => absf (z V sg t)
  maximumf
    (maximumf (maximumf (maximumf (a 0) (a 1)) (maximumf (a 2) (a 3))) (maximumf (maximumf (a 4) (a 5)) (maximumf (a 6) (a 7))))
    (maximumf (maximumf (maximumf (a 8) (a 9)) (maximumf (a 10) (a 11))) (maximumf (maximumf (a 12) (a 13)) (maximumf (a 14) (a 15))))

/-- The scale of each group. -/
def r (V : Vec F S128x128 .bf16) (sg : Fin 16 → F .f32) (s6 : F .f32) : FVec F S8x128 .f32 :=
  extf .f32 (truncf .fp8e4m3 (minimumf (divf (mulf (amax V sg) (broadcast S8x128 (Scalar.ofBits .f32 0x3E800000#32))) (broadcast S8x128 s6))
    (broadcast S8x128 (Scalar.ofBits .f32 0x43E00000#32))) bitsLt_fp8e4m3_f32 : FVec F S8x128 .fp8e4m3) bitsLt_fp8e4m3_f32

/-- The reciprocal of scale times tensor scale, zero where that is not positive. -/
def inv (V : Vec F S128x128 .bf16) (sg : Fin 16 → F .f32) (s s6 : F .f32) : FVec F S8x128 .f32 :=
  have q : FVec F S8x128 .f32 := mulf (r V sg s6) (broadcast S8x128 s)
  have p : IVec S8x128 1 := cmpf .ogt q (broadcast S8x128 (Scalar.ofBits .f32 0x00000000#32))
  select p (divf (broadcast S8x128 (Scalar.ofBits .f32 0x3F800000#32)) (select p q (broadcast S8x128 (Scalar.ofBits .f32 0x3F800000#32))))
    (broadcast S8x128 (Scalar.ofBits .f32 0x00000000#32))

/-- The magnitude on the quantiser's own scale. -/
def g (V : Vec F S128x128 .bf16) (sg : Fin 16 → F .f32) (s s6 : F .f32) (t : Nat) : FVec F S8x128 .f32 :=
  minimumf (maximumf (mulf (absf (z V sg t)) (inv V sg s s6))
    (addf (mulf (absf (z V sg t)) (mulf (inv V sg s s6) (broadcast S8x128 (Scalar.ofBits .f32 0x3F000000#32))))
      (broadcast S8x128 (Scalar.ofBits .f32 0x40000000#32)))) (broadcast S8x128 (Scalar.ofBits .f32 0x41C00000#32))

/-- The place of that magnitude in the order of the codes, in steps of two to the minus twenty-two. -/
def bits (x : FVec F S8x128 .f32) : IVec S8x128 32 :=
  addi (fptosi 32 (ceil (mulf x
    (select (cmpf .oge x (broadcast S8x128 (Scalar.ofBits .f32 0x41800000#32))) (broadcast S8x128 (Scalar.ofBits .f32 0x49000000#32))
      (select (cmpf .oge x (broadcast S8x128 (Scalar.ofBits .f32 0x41000000#32))) (broadcast S8x128 (Scalar.ofBits .f32 0x49800000#32))
        (select (cmpf .oge x (broadcast S8x128 (Scalar.ofBits .f32 0x40800000#32))) (broadcast S8x128 (Scalar.ofBits .f32 0x4A000000#32))
          (broadcast S8x128 (Scalar.ofBits .f32 0x4A800000#32))))))))
    (select (cmpf .oge x (broadcast S8x128 (Scalar.ofBits .f32 0x41800000#32))) (broadcast S8x128 1090519040#32)
      (select (cmpf .oge x (broadcast S8x128 (Scalar.ofBits .f32 0x41000000#32))) (broadcast S8x128 1082130432#32)
        (select (cmpf .oge x (broadcast S8x128 (Scalar.ofBits .f32 0x40800000#32))) (broadcast S8x128 1073741824#32)
          (broadcast S8x128 1065353216#32))))

/-- The random bytes of token quadruple `q` of every group, complemented, four to a word. -/
def rw4 (W : Vec F S128x128 .i8) (q : Fin 4) : IVec S8x128 32 :=
  xori (shapeCast S8x128 (extractStridedSlice S8x1x128 ![0, q.val, 0]
    (shapeCast S8x4x128 (bitcast S32x128 32 (shapeCast S128x128 W shapeCasts_S128x128_S128x128 : IVec S128x128 8) bitcasts_S128x128_w8_S32x128_w32)
      shapeCasts_S32x128_S8x4x128 : IVec S8x4x128 32) (slices4 q)) shapeCasts_S8x1x128_S8x128) (constantI S8x128 32 4294967295#32)

/-- Byte `b` of a word moved to bit 18. -/
def toBit18 (b : Nat) (w : IVec S8x128 32) : IVec S8x128 32 :=
  match b with
  | 0 => shli w (broadcast S8x128 18#32)
  | 1 => shli w (broadcast S8x128 10#32)
  | 2 => shli w (broadcast S8x128 2#32)
  | _ => shrui w (broadcast S8x128 6#32)

/-- Sign and code of token `t` of every group, in the topmost bits. -/
def m (V : Vec F S128x128 .bf16) (W : Vec F S128x128 .i8) (sg : Fin 16 → F .f32) (s s6 : F .f32) (t : Nat) : IVec S8x128 32 :=
  andi (addi (addi (shli (bits (g V sg s s6 t)) (broadcast S8x128 4#32))
      (addi (andi (toBit18 (t % 4) (rw4 W (Fin.ofNat 4 (t / 4)))) (broadcast S8x128 66846720#32)) (broadcast S8x128 131056#32)))
    (select (cmpf .olt (z V sg t) (broadcast S8x128 (Scalar.ofBits .f32 0x00000000#32))) (broadcast S8x128 2147483648#32) (broadcast S8x128 0#32)))
    (broadcast S8x128 2617245696#32)

/-- The four bytes of half `h` and parity `par`, one word. -/
def word (V : Vec F S128x128 .bf16) (W : Vec F S128x128 .i8) (sg : Fin 16 → F .f32) (s s6 : F .f32) (h par : Nat) : IVec S8x128 32 :=
  ori (ori (ori (shrui (m V W sg s s6 (8 * h + par)) (broadcast S8x128 24#32)) (shrui (m V W sg s s6 (8 * h + 2 + par)) (broadcast S8x128 16#32)))
    (shrui (m V W sg s s6 (8 * h + 4 + par)) (broadcast S8x128 8#32))) (m V W sg s s6 (8 * h + 6 + par))

/-- Two words of bytes as one word of pairs of codes. -/
def pack (fe fo : IVec S8x128 32) : IVec S8x128 32 :=
  have k : IVec S8x128 32 := ori (andi (shrui fe (broadcast S8x128 2#32)) (broadcast S8x128 117901063#32))
    (andi (shli fo (broadcast S8x128 2#32)) (broadcast S8x128 1886417008#32))
  have sn : IVec S8x128 32 := ori (andi (shrui fe (broadcast S8x128 4#32)) (broadcast S8x128 134744072#32)) (andi fo (broadcast S8x128 2155905152#32))
  ori k (andi (addi k (broadcast S8x128 2004318071#32)) sn)

/-- The code words of half `h`. -/
def codes (V : Vec F S128x128 .bf16) (W : Vec F S128x128 .i8) (sg : Fin 16 → F .f32) (s s6 : F .f32) (h : Nat) : IVec S8x128 32 :=
  pack (word V W sg s s6 h 0) (word V W sg s s6 h 1)

/-- The dequantised values of half `h` and parity `par`. -/
def val (V : Vec F S128x128 .bf16) (W : Vec F S128x128 .i8) (sg : Fin 16 → F .f32) (s s6 : F .f32) (h par : Nat) : FVec F S32x128 .bf16 :=
  mulf (extf .bf16 (bitcastToFloat .fp8e4m3 (bitcast S32x128 8 (word V W sg s s6 h par) bitcasts_S8x128_w32_S32x128_w8)) bitsLt_fp8e4m3_bf16)
    (extf .bf16 (truncf .fp8e4m3 (shapeCast S32x128 (broadcastTo S8x4x128 (shapeCast S8x1x128 (r V sg s6) shapeCasts_S8x128_S8x1x128)
      broadcasts_S8x1x128_S8x4x128) shapeCasts_S8x4x128_S32x128) bitsLt_fp8e4m3_f32 : FVec F S32x128 .fp8e4m3) bitsLt_fp8e4m3_bf16)

/-- The dequantised values of the unit, a token per lane. -/
def vals (V : Vec F S128x128 .bf16) (W : Vec F S128x128 .i8) (sg : Fin 16 → F .f32) (s s6 : F .f32) : FVec F S1x128x128 .bf16 :=
  shapeCast S1x128x128 (transpose S128x128 [1, 0] (concatenate S128x128 0 [⟨S32x128, val V W sg s s6 0 0⟩, ⟨S32x128, val V W sg s s6 0 1⟩,
    ⟨S32x128, val V W sg s s6 1 0⟩, ⟨S32x128, val V W sg s s6 1 1⟩] concatenates_S32x128_S32x128_S32x128_S32x128_S128x128_d0)
    transposes_S128x128_p1_0_S128x128) shapeCasts_S128x128_S1x128x128

end Cert.KernelIdeal.Unit

end
-- ==== Proof.Spec.lean ====
/- What the kernel does to one group of sixteen tokens, as functions of extended reals and bytes. -/
module

public import Idealize.ShloMosaic.Lib.Pointwise
public import Mathlib.Tactic.Ring

@[expose] public section

noncomputable section

namespace Cert.Quant

open Idealize.ShloMosaic

/-- One stage of the butterfly at distance `h`. -/
def stage (h : Nat) (x : Nat → EReal) (j : Nat) : EReal :=
  if j / h % 2 = 0 then x j + x (j + h) else x (j - h) - x j

/-- The rotated tokens, times four. -/
def zk (y sg : Fin 16 → EReal) : Nat → EReal :=
  stage 8 (stage 4 (stage 2 (stage 1 (fun j => y (Fin.ofNat 16 j) * sg (Fin.ofNat 16 j)))))

/-- The magnitude. -/
def ab (x : EReal) : EReal := max x (-x)

/-- The greatest magnitude of the group, times four. -/
def amaxk (y sg : Fin 16 → EReal) : EReal :=
  max
    (max (max (max (ab (zk y sg 0)) (ab (zk y sg 1))) (max (ab (zk y sg 2)) (ab (zk y sg 3))))
      (max (max (ab (zk y sg 4)) (ab (zk y sg 5))) (max (ab (zk y sg 6)) (ab (zk y sg 7)))))
    (max (max (max (ab (zk y sg 8)) (ab (zk y sg 9))) (max (ab (zk y sg 10)) (ab (zk y sg 11))))
      (max (max (ab (zk y sg 12)) (ab (zk y sg 13))) (max (ab (zk y sg 14)) (ab (zk y sg 15)))))

/-- The scale of the group. -/
def rk (y sg : Fin 16 → EReal) (s6 : EReal) : EReal :=
  min (Ideal.div (amaxk y sg * ((1 / 4 : ℝ) : EReal)) s6) ((448 : ℝ) : EReal)

/-- The reciprocal of scale times tensor scale, zero where that is not positive. -/
def invk (y sg : Fin 16 → EReal) (s s6 : EReal) : EReal :=
  if 0 < rk y sg s6 * s then Ideal.div 1 (rk y sg s6 * s) else 0

/-- The magnitude of token `t` on the quantiser's own scale. -/
def gk (y sg : Fin 16 → EReal) (s s6 : EReal) (t : Nat) : EReal :=
  min (max (ab (zk y sg t) * invk y sg s s6)
    (ab (zk y sg t) * (invk y sg s s6 * ((1 / 2 : ℝ) : EReal)) + ((2 : ℝ) : EReal))) ((24 : ℝ) : EReal)

/-- The place of that magnitude in the order of the codes, in steps of two to the minus twenty-two. -/
def bitsk (x : EReal) : BitVec 32 :=
  Ideal.fptosi 32 (Ideal.liftRound Int.ceil (x *
    (if ((16 : ℝ) : EReal) ≤ x then ((524288 : ℝ) : EReal)
      else if ((8 : ℝ) : EReal) ≤ x then ((1048576 : ℝ) : EReal)
      else if ((4 : ℝ) : EReal) ≤ x then ((2097152 : ℝ) : EReal)
      else ((4194304 : ℝ) : EReal)))) +
  (if ((16 : ℝ) : EReal) ≤ x then 1090519040#32
    else if ((8 : ℝ) : EReal) ≤ x then 1082130432#32
    else if ((4 : ℝ) : EReal) ≤ x then 1073741824#32
    else 1065353216#32)

/-- Sign and code of token `t`, in the topmost bits, with random byte `rb`. -/
def mk (y sg : Fin 16 → EReal) (s s6 : EReal) (rb : BitVec 8) (t : Nat) : BitVec 32 :=
  ((bitsk (gk y sg s s6 t) <<< 4 + (((~~~rb).setWidth 32) <<< 18 + 131056#32)) +
    (if zk y sg t < 0 then 2147483648#32 else 0#32)) &&& 2617245696#32

/-- Those bits as a byte. -/
def fk (y sg : Fin 16 → EReal) (s s6 : EReal) (rb : BitVec 8) (t : Nat) : BitVec 8 :=
  (mk y sg s s6 rb t).extractLsb' 24 8

/-- Two bytes as one byte of two codes. -/
def packByte (a c : BitVec 8) : BitVec 8 :=
  let k := ((a >>> 2) &&& 7#8) ||| ((c <<< 2) &&& 112#8)
  let s := ((a >>> 4) &&& 8#8) ||| (c &&& 128#8)
  k ||| ((k + 119#8) &&& s)

end Cert.Quant

end
-- ==== Proof.Bytes.lean ====
/- Words of four bytes: masks, shifts and the joint addition, byte by byte. -/
module

public import proofs.«01_k».proof.Proof.Spec

@[expose] public section

namespace Cert.Quant

theorem bits18 (x : BitVec 32) (i : Nat) : (x &&& 66846720#32).getLsbD i = (decide (18 ≤ i ∧ i < 26) && x.getLsbD i) := by
  rw [BitVec.getLsbD_and]
  by_cases hi : i < 32
  · have : (66846720#32).getLsbD i = decide (18 ≤ i ∧ i < 26) := by
      interval_cases i <;> decide
    rw [this, Bool.and_comm]
  · simp [BitVec.getLsbD_of_ge _ _ (by omega : 32 ≤ i)]

/-- The masked words keep nothing below bit twenty-four. -/
theorem masked_low (x : BitVec 32) (n : Nat) (hn : n < 24) : (x &&& 2617245696#32).getLsbD n = false := by
  rw [BitVec.getLsbD_and]
  have : (2617245696#32).getLsbD n = false := by interval_cases n <;> decide
  rw [this, Bool.and_false]

theorem word_bytes (x : Nat → BitVec 32) (hx : ∀ b n, n < 24 → (x b).getLsbD n = false) (b : Nat) (hb : b < 4) :
    ((((x 0 >>> 24) ||| (x 1 >>> 16)) ||| (x 2 >>> 8)) ||| x 3).extractLsb' (8 * b) 8 = (x b).extractLsb' 24 8 := by
  apply BitVec.eq_of_getLsbD_eq
  intro i hi
  simp only [BitVec.getLsbD_extractLsb', BitVec.getLsbD_or, BitVec.getLsbD_ushiftRight, hi, decide_true, Bool.true_and]
  interval_cases b
  · rw [hx 1 _ (by omega), hx 2 _ (by omega), hx 3 _ (by omega)]; simp
  · rw [BitVec.getLsbD_of_ge (x 0) _ (by omega), hx 2 _ (by omega), hx 3 _ (by omega)]; simp [show 16 + (8 + i) = 24 + i by omega]
  · rw [BitVec.getLsbD_of_ge (x 0) _ (by omega), BitVec.getLsbD_of_ge (x 1) _ (by omega), hx 3 _ (by omega)]; simp [show 8 + (16 + i) = 24 + i by omega]
  · rw [BitVec.getLsbD_of_ge (x 0) _ (by omega), BitVec.getLsbD_of_ge (x 1) _ (by omega), BitVec.getLsbD_of_ge (x 2) _ (by omega)]; simp

theorem and_bit7 (i n : Nat) (hi : i < 8) (hn : n < 4) :
    (117901063#32).getLsbD (8 * n + i) = (7#8).getLsbD i ∧ (1886417008#32).getLsbD (8 * n + i) = (112#8).getLsbD i ∧
    (134744072#32).getLsbD (8 * n + i) = (8#8).getLsbD i ∧ (2155905152#32).getLsbD (8 * n + i) = (128#8).getLsbD i := by
  interval_cases n <;> interval_cases i <;> decide

theorem add_nat (a b c d : Nat) (ha : a ≤ 119) (hb : b ≤ 119) (hc : c ≤ 119) (hd : d ≤ 119) :
    (a + 256 * b + 65536 * c + 16777216 * d + 2004318071) % 4294967296 =
      (a + 119) + 256 * (b + 119) + 65536 * (c + 119) + 16777216 * (d + 119) := by omega

theorem bytes_nat (K : Nat) (hK : K < 4294967296) :
    K = K % 256 + 256 * (K / 256 % 256) + 65536 * (K / 65536 % 256) + 16777216 * (K / 16777216 % 256) := by
  have h1 : K / 65536 = K / 256 / 256 := by rw [Nat.div_div_eq_div_mul]
  have h2 : K / 16777216 = K / 256 / 256 / 256 := by rw [Nat.div_div_eq_div_mul, Nat.div_div_eq_div_mul]
  rw [h1, h2]
  have e0 := Nat.div_add_mod K 256
  have e1 := Nat.div_add_mod (K / 256) 256
  have e2 := Nat.div_add_mod (K / 256 / 256) 256
  have e3 : K / 256 / 256 / 256 < 256 := by
    rw [Nat.div_div_eq_div_mul, Nat.div_div_eq_div_mul]
    exact Nat.div_lt_of_lt_mul hK
  rw [Nat.mod_eq_of_lt e3]
  omega

theorem byte_of (a b c d : Nat) (ha : a < 256) (hb : b < 256) (hc : c < 256) (hd : d < 256) :
    (a + 256 * b + 65536 * c + 16777216 * d) % 256 = a ∧ (a + 256 * b + 65536 * c + 16777216 * d) / 256 % 256 = b ∧
    (a + 256 * b + 65536 * c + 16777216 * d) / 65536 % 256 = c ∧ (a + 256 * b + 65536 * c + 16777216 * d) / 16777216 % 256 = d := by
  have e1 : (a + 256 * b + 65536 * c + 16777216 * d) / 256 = b + 256 * c + 65536 * d := by omega
  have e2 : (b + 256 * c + 65536 * d) / 256 = c + 256 * d := by omega
  have e3 : (c + 256 * d) / 256 = d := by omega
  refine ⟨by omega, by rw [e1]; omega, ?_, ?_⟩
  · rw [show 65536 = 256 * 256 from rfl, ← Nat.div_div_eq_div_mul, show 256 * 256 = 65536 from rfl, e1, e2]; omega
  · rw [show (16777216 : Nat) = 256 * 256 * 256 from rfl, ← Nat.div_div_eq_div_mul, ← Nat.div_div_eq_div_mul,
      show 256 * 256 * 256 = 16777216 from rfl, e1, e2, e3]; omega

theorem add_bytes (k : BitVec 32) (h : ∀ b, b < 4 → (k.extractLsb' (8 * b) 8).toNat ≤ 119) (b : Nat) (hb : b < 4) :
    (k + 2004318071#32).extractLsb' (8 * b) 8 = k.extractLsb' (8 * b) 8 + 119#8 := by
  apply BitVec.eq_of_toNat_eq
  have h0 : k.toNat % 256 ≤ 119 := by have := h 0 (by omega); simpa using this
  have h1 : k.toNat / 256 % 256 ≤ 119 := by have := h 1 (by omega); simpa [BitVec.extractLsb'_toNat, Nat.shiftRight_eq_div_pow] using this
  have h2 : k.toNat / 65536 % 256 ≤ 119 := by have := h 2 (by omega); simpa [BitVec.extractLsb'_toNat, Nat.shiftRight_eq_div_pow] using this
  have h3 : k.toNat / 16777216 % 256 ≤ 119 := by have := h 3 (by omega); simpa [BitVec.extractLsb'_toNat, Nat.shiftRight_eq_div_pow] using this
  have hk : k.toNat < 4294967296 := k.isLt
  have e : (k.toNat + 2004318071) % 4294967296 = (k.toNat % 256 + 119) + 256 * (k.toNat / 256 % 256 + 119) +
      65536 * (k.toNat / 65536 % 256 + 119) + 16777216 * (k.toNat / 16777216 % 256 + 119) := by
    rw [← add_nat _ _ _ _ h0 h1 h2 h3, ← bytes_nat k.toNat hk]
  obtain ⟨d0, d1, d2, d3⟩ := byte_of (k.toNat % 256 + 119) (k.toNat / 256 % 256 + 119) (k.toNat / 65536 % 256 + 119)
    (k.toNat / 16777216 % 256 + 119) (by omega) (by omega) (by omega) (by omega)
  rw [BitVec.extractLsb'_toNat, BitVec.toNat_add, BitVec.toNat_add, BitVec.extractLsb'_toNat, Nat.shiftRight_eq_div_pow, Nat.shiftRight_eq_div_pow,
    show (2004318071#32).toNat = 2004318071 from rfl, show (119#8).toNat = 119 from rfl, show (2 ^ 32 : Nat) = 4294967296 from rfl, e,
    show (2 ^ 8 : Nat) = 256 from rfl]
  rcases (by omega : b = 0 ∨ b = 1 ∨ b = 2 ∨ b = 3) with rfl | rfl | rfl | rfl
  · rw [show (2 ^ (8 * 0) : Nat) = 1 from rfl, Nat.div_one, Nat.div_one, d0]; exact (Nat.mod_eq_of_lt (by omega)).symm
  · rw [show (2 ^ (8 * 1) : Nat) = 256 from rfl, d1]; exact (Nat.mod_eq_of_lt (by omega)).symm
  · rw [show (2 ^ (8 * 2) : Nat) = 65536 from rfl, d2]; exact (Nat.mod_eq_of_lt (by omega)).symm
  · rw [show (2 ^ (8 * 3) : Nat) = 16777216 from rfl, d3]; exact (Nat.mod_eq_of_lt (by omega)).symm

theorem pack_bytes (fe fo : BitVec 32) (b : Nat) (hb : b < 4) :
    BitVec.extractLsb' (8 * b) 8 (((fe >>> 2 &&& 117901063#32) ||| (fo <<< 2 &&& 1886417008#32)) |||
      ((((fe >>> 2 &&& 117901063#32) ||| (fo <<< 2 &&& 1886417008#32)) + 2004318071#32) &&&
        ((fe >>> 4 &&& 134744072#32) ||| (fo &&& 2155905152#32)))) =
      packByte (fe.extractLsb' (8 * b) 8) (fo.extractLsb' (8 * b) 8) := by
  have hk : ∀ b, b < 4 → BitVec.extractLsb' (8 * b) 8 ((fe >>> 2 &&& 117901063#32) ||| (fo <<< 2 &&& 1886417008#32)) =
      ((fe.extractLsb' (8 * b) 8 >>> 2) &&& 7#8) ||| ((fo.extractLsb' (8 * b) 8 <<< 2) &&& 112#8) := by
    intro b hb
    apply BitVec.eq_of_getLsbD_eq
    intro i hi
    obtain ⟨c1, c2, c3, c4⟩ := and_bit7 i b hi hb
    simp only [BitVec.getLsbD_extractLsb', BitVec.getLsbD_or, BitVec.getLsbD_and, BitVec.getLsbD_ushiftRight, BitVec.getLsbD_shiftLeft, hi, c1, c2,
      decide_true, Bool.true_and]
    interval_cases i <;> simp <;> first | done | omega | (congr 1; omega) | (intro _; omega)
  have hs : BitVec.extractLsb' (8 * b) 8 ((fe >>> 4 &&& 134744072#32) ||| (fo &&& 2155905152#32)) =
      ((fe.extractLsb' (8 * b) 8 >>> 4) &&& 8#8) ||| (fo.extractLsb' (8 * b) 8 &&& 128#8) := by
    apply BitVec.eq_of_getLsbD_eq
    intro i hi
    obtain ⟨c1, c2, c3, c4⟩ := and_bit7 i b hi hb
    simp only [BitVec.getLsbD_extractLsb', BitVec.getLsbD_or, BitVec.getLsbD_and, BitVec.getLsbD_ushiftRight, hi, c3, c4, decide_true, Bool.true_and]
    interval_cases i <;> simp <;> first | done | (congr 1; omega) | omega
  have le : ∀ x y : BitVec 8, (((x >>> 2) &&& 7#8) ||| ((y <<< 2) &&& 112#8)).toNat ≤ 119 := by
    intro x y
    have : ((x >>> 2) &&& 7#8) ||| ((y <<< 2) &&& 112#8) = (((x >>> 2) &&& 7#8) ||| ((y <<< 2) &&& 112#8)) &&& 119#8 := by
      apply BitVec.eq_of_getLsbD_eq
      intro i hi
      simp only [BitVec.getLsbD_or, BitVec.getLsbD_and, BitVec.getLsbD_ushiftRight, BitVec.getLsbD_shiftLeft]
      interval_cases i <;> simp
    rw [this, BitVec.toNat_and]
    exact Nat.and_le_right
  have hadd := add_bytes ((fe >>> 2 &&& 117901063#32) ||| (fo <<< 2 &&& 1886417008#32)) (fun b hb => by rw [hk b hb]; exact le _ _) b hb
  have ho : ∀ x y : BitVec 32, BitVec.extractLsb' (8 * b) 8 (x ||| y) = BitVec.extractLsb' (8 * b) 8 x ||| BitVec.extractLsb' (8 * b) 8 y := by
    intro x y; apply BitVec.eq_of_getLsbD_eq; intro i hi; simp [hi]
  have ha : ∀ x y : BitVec 32, BitVec.extractLsb' (8 * b) 8 (x &&& y) = BitVec.extractLsb' (8 * b) 8 x &&& BitVec.extractLsb' (8 * b) 8 y := by
    intro x y; apply BitVec.eq_of_getLsbD_eq; intro i hi; simp [hi]
  rw [ho, ha, hadd, hk b hb, hs]
  rfl

end Cert.Quant

end
-- ==== Proof.UnitAt.lean ====
/- The values of one unit at an index, over the extended reals. -/
module

public import proofs.«01_k».proof.Proof.Unit
public import proofs.«01_k».proof.Proof.Bytes
public import Idealize.ShloMosaic.Lib.BitcastFour

@[expose] public section

set_option maxRecDepth 16384

noncomputable section

namespace Cert.KernelIdeal.Unit

open Idealize.ShloMosaic
open Cert.KernelIdeal.Gen Cert.Quant

theorem c_quarter : Ideal.ofBits .f32 0x3E800000#32 = ((1 / 4 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_448 : Ideal.ofBits .f32 0x43E00000#32 = ((448 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_24 : Ideal.ofBits .f32 0x41C00000#32 = ((24 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_8 : Ideal.ofBits .f32 0x41000000#32 = ((8 : ℝ) : EReal) := by
  simp [Ideal.ofBits, Ideal.ieee, -EReal.coe_mul]; norm_num
theorem c_4 : Ideal.ofBits .f32 0x40800000#32 = ((4 : ℝ) : EReal) := by
  simp [Ideal.ofBits, Ideal.ieee, -EReal.coe_mul]; norm_num
theorem c_19 : Ideal.ofBits .f32 0x49000000#32 = ((524288 : ℝ) : EReal) := by
  simp [Ideal.ofBits, Ideal.ieee, -EReal.coe_mul]; norm_num
theorem c_20 : Ideal.ofBits .f32 0x49800000#32 = ((1048576 : ℝ) : EReal) := by
  simp [Ideal.ofBits, Ideal.ieee, -EReal.coe_mul]; norm_num
theorem c_21 : Ideal.ofBits .f32 0x4A000000#32 = ((2097152 : ℝ) : EReal) := by
  simp [Ideal.ofBits, Ideal.ieee, -EReal.coe_mul]; norm_num
theorem c_22 : Ideal.ofBits .f32 0x4A800000#32 = ((4194304 : ℝ) : EReal) := by
  simp [Ideal.ofBits, Ideal.ieee, -EReal.coe_mul]; norm_num

variable (V : Vec Ideal S128x128 .bf16) (W : Vec Ideal S128x128 .i8) (sg : Fin 16 → EReal) (s s6 : EReal)

/-- The tokens of group `g` in lane `l`. -/
def col (g : Fin 8) (l : Fin 128) : Fin 16 → EReal := fun t => V (ix2 ⟨16 * g.val + t.val, by omega⟩ l)

theorem signed_at (g : Fin 8) (l : Fin 128) (t : Fin 16) : signed V sg t (ix2 g l) = col V g l t * sg t := by
  pointwise [signed, col]
  rw [show (⟨g.val * 16 + t.val, by omega⟩ : Fin 128) = ⟨16 * g.val + t.val, by omega⟩ from Fin.ext (by simp [Nat.mul_comm])]

theorem stage_at (h : Nat) (x : Nat → FVec Ideal S8x128 .f32) (i : S8x128.Idx) :
    ∀ j, stage h x j i = Quant.stage h (fun j => x j i) j := by
  intro j
  unfold stage Quant.stage
  split <;> rfl

theorem z_at (g : Fin 8) (l : Fin 128) (j : Nat) : z V sg j (ix2 g l) = zk (col V g l) sg j := by
  simp only [z, zk, stage_at, signed_at]

theorem absf_at (x : FVec Ideal S8x128 .f32) (i : S8x128.Idx) : absf x i = ab (x i) := rfl

theorem amax_at (g : Fin 8) (l : Fin 128) : amax V sg (ix2 g l) = amaxk (col V g l) sg := by
  unfold amax amaxk
  simp only [← z_at V sg g l]
  rfl

theorem r_at (g : Fin 8) (l : Fin 128) : r V sg s6 (ix2 g l) = rk (col V g l) sg s6 := by
  unfold r rk
  rw [← amax_at V sg g l, ← c_quarter, ← c_448]
  rfl

theorem ite_cmp {α : Type} (p : Prop) [Decidable p] (a b : α) :
    (if BitVec.ofBool (decide p) = 1#1 then a else b) = if p then a else b := by
  by_cases h : p <;> simp [h]

theorem inv_at (g : Fin 8) (l : Fin 128) : inv V sg s s6 (ix2 g l) = invk (col V g l) sg s s6 := by
  unfold inv invk
  rw [← r_at V sg s6 g l]
  pointwise []
  split <;> rfl

theorem g_at (g' : Fin 8) (l : Fin 128) (t : Nat) : g V sg s s6 t (ix2 g' l) = gk (col V g' l) sg s s6 t := by
  unfold g gk
  rw [← inv_at V sg s s6 g' l, ← z_at V sg g' l, ← c_half, ← c_2, ← c_24]
  rfl

theorem bits_at (x : FVec Ideal S8x128 .f32) (i : S8x128.Idx) : bits x i = bitsk (x i) := by
  unfold bits bitsk
  rw [← c_16, ← c_8, ← c_4, ← c_19, ← c_20, ← c_21, ← c_22]
  pointwise []
  rfl

theorem rw4_bit (q : Fin 4) (g : Fin 8) (l : Fin 128) (n : Nat) (hn : n < 32) :
    (rw4 W q (ix2 g l)).getLsbD n = !((W (ix2 ⟨16 * g.val + 4 * q.val + n / 8, by omega⟩ l) : BitVec 8).getLsbD (n % 8)) := by
  have e : rw4 W q (ix2 g l) = IntOp.xori (bitcast S32x128 32 W bitcasts_S128x128_w8_S32x128_w32 (ix2 ⟨4 * g.val + q.val, by omega⟩ l))
      4294967295#32 := by
    pointwise [rw4]
    rw [show (⟨g.val * 4 + q.val, by omega⟩ : Fin 32) = ⟨4 * g.val + q.val, by omega⟩ from Fin.ext (by simp [Nat.mul_comm])]
  rw [e]
  have h1 : (4294967295#32 : BitVec 32) = BitVec.allOnes 32 := by decide
  unfold IntOp.xori
  rw [h1, BitVec.xor_allOnes, BitVec.getLsbD_not, show ix2 (⟨4 * g.val + q.val, by omega⟩ : Fin 32) l = ValueIdx.ix2 _ l from rfl,
    bitcast_8_32_getLsbD_ix2 W _ _ l n hn ⟨16 * g.val + 4 * q.val + n / 8, by omega⟩ (by simp; omega)]
  simp only [hn, decide_true, Bool.true_and]
  rfl

theorem byte_at (g : Fin 8) (l : Fin 128) (t : Nat) (ht : t < 16) :
    andi (toBit18 (t % 4) (rw4 W (Fin.ofNat 4 (t / 4)))) (broadcast S8x128 66846720#32) (ix2 g l) =
      ((~~~(W (ix2 ⟨16 * g.val + t, by omega⟩ l) : BitVec 8)).setWidth 32) <<< 18 := by
  have hq : (Fin.ofNat 4 (t / 4)).val = t / 4 := by simp [Fin.ofNat]; omega
  have key : ∀ n, n < 8 → (rw4 W (Fin.ofNat 4 (t / 4)) (ix2 g l)).getLsbD (n + 8 * (t % 4)) =
      !((W (ix2 ⟨16 * g.val + t, by omega⟩ l) : BitVec 8).getLsbD n) := by
    intro n hn
    rw [rw4_bit W _ g l _ (by omega), show (n + 8 * (t % 4)) % 8 = n by omega]
    congr 4
    exact Fin.ext (by simp only [hq]; omega)
  have fin : ∀ x : BitVec 32, (∀ n, n < 8 → x.getLsbD (18 + n) = !((W (ix2 ⟨16 * g.val + t, by omega⟩ l) : BitVec 8).getLsbD n)) →
      x &&& 66846720#32 = ((~~~(W (ix2 ⟨16 * g.val + t, by omega⟩ l) : BitVec 8)).setWidth 32) <<< 18 := by
    intro x hx
    apply BitVec.eq_of_getLsbD_eq
    intro i hi
    rw [bits18, BitVec.getLsbD_shiftLeft, BitVec.getLsbD_setWidth, BitVec.getLsbD_not]
    by_cases h1 : 18 ≤ i ∧ i < 26
    · have := hx (i - 18) (by omega)
      rw [show 18 + (i - 18) = i by omega] at this
      rw [this]
      simp [h1, hi, show ¬ i < 18 by omega, show i - 18 < 8 by omega, show i - 18 < 32 by omega]
    · by_cases h2 : i < 18
      · simp [h1, h2]
      · simp [h1, show ¬ i - 18 < 8 by omega]
  rcases (by omega : t % 4 = 0 ∨ t % 4 = 1 ∨ t % 4 = 2 ∨ t % 4 = 3) with h | h | h | h <;> rw [h] at key ⊢ <;> apply fin
  · intro n hn
    show ((rw4 W (Fin.ofNat 4 (t / 4)) (ix2 g l)) <<< 18).getLsbD _ = _
    rw [BitVec.getLsbD_shiftLeft, ← key n hn]
    simp [show 18 + n < 32 by omega, show 18 + n - 18 = n by omega]
  · intro n hn
    show ((rw4 W (Fin.ofNat 4 (t / 4)) (ix2 g l)) <<< 10).getLsbD _ = _
    rw [BitVec.getLsbD_shiftLeft, ← key n hn]
    simp [show 18 + n < 32 by omega, show 18 + n - 10 = n + 8 by omega, show ¬ 18 + n < 10 by omega]
  · intro n hn
    show ((rw4 W (Fin.ofNat 4 (t / 4)) (ix2 g l)) <<< 2).getLsbD _ = _
    rw [BitVec.getLsbD_shiftLeft, ← key n hn]
    simp [show 18 + n < 32 by omega, show 18 + n - 2 = n + 16 by omega, show ¬ 18 + n < 2 by omega]
  · intro n hn
    show ((rw4 W (Fin.ofNat 4 (t / 4)) (ix2 g l)) >>> 6).getLsbD _ = _
    rw [BitVec.getLsbD_ushiftRight, ← key n hn, show 6 + (18 + n) = n + 8 * 3 by omega]

theorem m_at (g : Fin 8) (l : Fin 128) (t : Nat) (ht : t < 16) :
    m V W sg s s6 t (ix2 g l) = mk (col V g l) sg s s6 (W (ix2 ⟨16 * g.val + t, by omega⟩ l)) t := by
  unfold m mk
  rw [← byte_at W g l t ht, ← z_at V sg g l, ← g_at, ← bits_at]
  pointwise []
  rfl

/-- The random byte of token `t` of group `g` in lane `l`. -/
def rcol (g : Fin 8) (l : Fin 128) (t : Nat) : BitVec 8 :=
  if ht : t < 16 then W (ix2 ⟨16 * g.val + t, by omega⟩ l) else 0#8

/-- The byte of token `t` of group `g` in lane `l`. -/
def fcol (g : Fin 8) (l : Fin 128) (t : Nat) : BitVec 8 := fk (col V g l) sg s s6 (rcol W g l t) t

theorem word_at (g : Fin 8) (l : Fin 128) (h par : Nat) (hh : h < 2) (hp : par < 2) (b : Nat) (hb : b < 4) :
    BitVec.extractLsb' (8 * b) 8 (word V W sg s s6 h par (ix2 g l)) = fcol V W sg s s6 g l (8 * h + 2 * b + par) := by
  have e : word V W sg s s6 h par (ix2 g l) =
      ((((fun b => m V W sg s s6 (8 * h + 2 * b + par) (ix2 g l)) 0 >>> 24) ||| ((fun b => m V W sg s s6 (8 * h + 2 * b + par) (ix2 g l)) 1 >>> 16)) |||
        ((fun b => m V W sg s s6 (8 * h + 2 * b + par) (ix2 g l)) 2 >>> 8)) ||| (fun b => m V W sg s s6 (8 * h + 2 * b + par) (ix2 g l)) 3 := rfl
  rw [e, word_bytes (fun b => m V W sg s s6 (8 * h + 2 * b + par) (ix2 g l)) (fun b n hn => masked_low _ n hn) b hb]
  rw [m_at V W sg s s6 g l _ (by omega)]
  simp only [fcol, fk, rcol, show 8 * h + 2 * b + par < 16 by omega, dite_true]

theorem codes_at (g : Fin 8) (l : Fin 128) (h : Nat) (hh : h < 2) (b : Nat) (hb : b < 4) :
    BitVec.extractLsb' (8 * b) 8 (codes V W sg s s6 h (ix2 g l)) =
      packByte (fcol V W sg s s6 g l (8 * h + 2 * b)) (fcol V W sg s s6 g l (8 * h + 2 * b + 1)) := by
  have e := pack_bytes (word V W sg s s6 h 0 (ix2 g l)) (word V W sg s s6 h 1 (ix2 g l)) b hb
  rw [word_at V W sg s s6 g l h 0 hh (by omega) b hb, word_at V W sg s s6 g l h 1 hh (by omega) b hb] at e
  exact e

theorem val_at (g : Fin 8) (l : Fin 128) (h par : Nat) (hh : h < 2) (hp : par < 2) (b : Nat) (hb : b < 4) :
    val V W sg s s6 h par (ix2 ⟨4 * g.val + b, by omega⟩ l) =
      Ideal.e4m3fn (fcol V W sg s s6 g l (8 * h + 2 * b + par)) * rk (col V g l) sg s6 := by
  rw [← r_at V sg s6 g l, ← word_at V W sg s s6 g l h par hh hp b hb]
  pointwise [val]
  rw [show (⟨(4 * g.val + b) / 4, by omega⟩ : Fin 8) = g from Fin.ext (by simp only; omega)]
  congr 1
  show Ideal.e4m3fn _ = _
  congr 1
  apply BitVec.eq_of_getLsbD_eq
  intro i hi
  rw [bitcast_getLsbD _ _ _ i hi (by decide), BitVec.getLsbD_extractLsb']
  have hr : S32x128.row (ix2 ⟨4 * g.val + b, by omega⟩ l) = 4 * g.val + b := rfl
  simp only [hi, decide_true, Bool.true_and]
  have e1 : (S32x128.row (ix2 ⟨4 * g.val + b, by omega⟩ l) * 8 + i) / 32 = g.val := by rw [hr]; omega
  have e2 : (S32x128.row (ix2 ⟨4 * g.val + b, by omega⟩ l) * 8 + i) % 32 = 8 * b + i := by rw [hr]; omega
  have hp' : ∀ a : Fin S8x128.rank, a.val + 2 = S8x128.rank → g.val < S8x128.size a := by
    intro a ha
    match a with
    | ⟨0, _⟩ => exact g.isLt
    | ⟨1, _⟩ => exact absurd ha (by show ¬ 1 + 2 = 2; omega)
  rw [e2, bitcasts_S8x128_w32_S32x128_w8.srcIdx_congr _ e1 _ hp']
  congr 2
  funext c
  match c with
  | ⟨0, _⟩ => exact Fin.ext (bitcasts_S8x128_w32_S32x128_w8.srcIdx_row _ _ _ ⟨0, Nat.zero_lt_two⟩ rfl)
  | ⟨1, _⟩ => exact Fin.ext (bitcasts_S8x128_w32_S32x128_w8.srcIdx_other _ _ _ ⟨1, Nat.one_lt_two⟩ (by show ¬ 1 + 2 = 2; omega))

theorem vals_at (l : Fin 128) (h par : Fin 2) (g : Fin 8) (b : Fin 4) :
    vals V W sg s s6 (ix3 0 l ⟨32 * (2 * h.val + par.val) + 4 * g.val + b.val, by omega⟩) =
      Ideal.e4m3fn (fcol V W sg s s6 g l (8 * h.val + 2 * b.val + par.val)) * rk (col V g l) sg s6 := by
  rw [← val_at V W sg s s6 g l h.val par.val (by omega) (by omega) b.val (by omega)]
  pointwise [vals]
  fin_cases h <;> fin_cases par
  · rw [dif_pos (by simp only; omega)]
    congr 2; exact Fin.ext (by simp only; omega)
  · rw [dif_neg (by simp only; omega), dif_pos (by simp only; omega)]
    congr 2; exact Fin.ext (by simp only; omega)
  · rw [dif_neg (by simp only; omega), dif_neg (by simp only; omega), dif_pos (by simp only; omega)]
    congr 2; exact Fin.ext (by simp only; omega)
  · rw [dif_neg (by simp only; omega), dif_neg (by simp only; omega), dif_neg (by simp only; omega)]
    congr 2; exact Fin.ext (by simp only; omega)

end Cert.KernelIdeal.Unit

end
-- ==== Proof.Inv.lean ====
/- What the scratch buffers hold after the first units of a block, and that one more unit keeps it so. -/
module

public import proofs.«01_k».proof.Proof.Steps
public import proofs.«01_k».proof.Proof.UnitAt

@[expose] public section

set_option maxRecDepth 16384

noncomputable section

namespace Cert.KernelIdeal.Hand

open Idealize.ShloMosaic
open Cert.KernelIdeal.Gen Cert.Quant

section spec

/- `D c` and `B c` are the two chunks of `dy` and of the random bytes, tokens by lanes. -/
variable (D : Fin 2 → S1792x128.Idx → EReal) (B : Fin 2 → S1792x128.Idx → BitVec 8) (sg : Fin 16 → EReal) (s s6 : EReal)

/-- The tokens of group `G` in lane `l` of chunk `c`. -/
def yc (c : Fin 2) (G : ℕ) (l : Fin 128) : Fin 16 → EReal := fun t => D c (ix2 (Fin.ofNat 1792 (16 * G + t.val)) l)

/-- Their scale. -/
def rS (c : Fin 2) (G : ℕ) (l : Fin 128) : EReal := rk (yc D c G l) sg s6

/-- The byte of token `t`. -/
def fS (c : Fin 2) (G : ℕ) (l : Fin 128) (t : ℕ) : BitVec 8 :=
  fk (yc D c G l) sg s s6 (B c (ix2 (Fin.ofNat 1792 (16 * G + t)) l)) t

/-- The group of column `q` of the dequantised operand, and the token within it. -/
def gq (q : ℕ) : ℕ := q / 128 * 8 + q % 32 / 4
@[inherit_doc gq] def tq (q : ℕ) : ℕ := q % 128 / 64 * 8 + q % 4 * 2 + q % 64 / 32

/-- The dequantised operand at row `p`, column `q`, in multiples of one sixty-fourth. -/
def lS (p : Fin 256) (q : ℕ) : EReal :=
  Ideal.e4m3fn (fS D B sg s s6 ⟨p.val / 128, by omega⟩ (gq q) ⟨p.val % 128, by omega⟩ (tq q)) *
    rS D sg s6 ⟨p.val / 128, by omega⟩ (gq q) ⟨p.val % 128, by omega⟩

/-- The byte of two codes: pair `k` of row `p`. -/
def cS (p : Fin 256) (k : ℕ) : BitVec 8 :=
  packByte (fS D B sg s s6 ⟨p.val / 128, by omega⟩ (k / 8) ⟨p.val % 128, by omega⟩ (2 * (k % 8)))
    (fS D B sg s s6 ⟨p.val / 128, by omega⟩ (k / 8) ⟨p.val % 128, by omega⟩ (2 * (k % 8) + 1))

/-- The scales of the first `n` units are in their places. -/
def I13 (n : ℕ) (x : S2x128x128.Idx → EReal) : Prop :=
  ∀ (c : Fin 2) (G l : Fin 128), G.val < 8 * n → x (ix3 c G l) = rS D sg s6 c G.val l

/-- The code words of the first `n` units are in their places. -/
def I12 (n : ℕ) (x : S2x224x128.Idx → BitVec 32) : Prop :=
  ∀ (c : Fin 2) (ρ : Fin 224) (l : Fin 128) (b : Fin 4), ρ.val < 16 * n →
    BitVec.extractLsb' (8 * b.val) 8 (x (ix3 c ρ l)) =
      packByte (fS D B sg s s6 c (ρ.val / 2) l (8 * (ρ.val % 2) + 2 * b.val))
        (fS D B sg s s6 c (ρ.val / 2) l (8 * (ρ.val % 2) + 2 * b.val + 1))

/-- The dequantised values of the first `n` units are in slot `sl`, and the other slot is as before. -/
def I11 (n sl : ℕ) (prev x : S2x256x1792.Idx → EReal) : Prop :=
  ∀ (c : Fin 2) (p : Fin 256) (q : Fin 1792),
    (c.val = sl → q.val < 128 * n → x (ix3 c p q) = lS D B sg s s6 p q.val) ∧
    (c.val ≠ sl → x (ix3 c p q) = prev (ix3 c p q))

end spec

variable {sig : RefSig} {κ : Kind} {sp : Space}
variable (D : Fin 2 → S1792x128.Idx → EReal) (B : Fin 2 → S1792x128.Idx → BitVec 8) (sg : Fin 16 → EReal) (s s6 : EReal)

/-- The tokens of a loaded unit. -/
theorem col_load (v : View sig κ sp S1792x128 .bf16) (X : v.ty.Contents (Elt Ideal)) (c : Fin 2) (n : ℕ) (hn : n < 14)
    (o : Fin 2 → ℕ) (inb) (ho : o = ![128 * n, 0]) (hX : ∀ y, v.read (Elt Ideal) X y = D c y) (g : Fin 8) (l : Fin 128) :
    Unit.col (View.readAt (Elt Ideal) v (Rect.unit (s := S1792x128) o S128x128.size inb).toLoadRect X) g l
      = yc D c (8 * n + g.val) l := by
  subst ho
  funext t
  show v.read (Elt Ideal) X _ = _
  rw [hX]
  refine congrArg (D c) ?_
  funext a
  fin_cases a
  · apply Fin.ext
    show 128 * n + 1 * (16 * g.val + t.val) = (16 * (8 * n + g.val) + t.val) % 1792
    omega
  · apply Fin.ext
    show 0 + 1 * l.val = l.val
    omega

/-- The random byte of a token of a loaded unit. -/
theorem rcol_load (v : View sig κ sp S1792x128 .i8) (X : v.ty.Contents (Elt Ideal)) (c : Fin 2) (n : ℕ) (hn : n < 14)
    (o : Fin 2 → ℕ) (inb) (ho : o = ![128 * n, 0]) (hX : ∀ y, v.read (Elt Ideal) X y = B c y) (g : Fin 8) (l : Fin 128)
    (t : ℕ) (ht : t < 16) :
    Unit.rcol (View.readAt (Elt Ideal) v (Rect.unit (s := S1792x128) o S128x128.size inb).toLoadRect X) g l t
      = B c (ix2 (Fin.ofNat 1792 (16 * (8 * n + g.val) + t)) l) := by
  subst ho
  unfold Unit.rcol
  rw [dif_pos ht]
  show v.read (Elt Ideal) X _ = _
  rw [hX]
  refine congrArg (B c) ?_
  funext a
  fin_cases a
  · apply Fin.ext
    show 128 * n + 1 * (16 * g.val + t) = (16 * (8 * n + g.val) + t) % 1792
    omega
  · apply Fin.ext
    show 0 + 1 * l.val = l.val
    omega

/-- A loaded unit is unit `n` of chunk `c`. -/
structure Loaded (c : Fin 2) (n : ℕ) (V : Vec Ideal S128x128 .bf16) (W : Vec Ideal S128x128 .i8) : Prop where
  col : ∀ (g : Fin 8) (l : Fin 128), Unit.col V g l = yc D c (8 * n + g.val) l
  rcol : ∀ (g : Fin 8) (l : Fin 128) (t : ℕ), t < 16 →
    Unit.rcol W g l t = B c (ix2 (Fin.ofNat 1792 (16 * (8 * n + g.val) + t)) l)

variable {D B}

theorem Loaded.r {c n V W} (h : Loaded D B c n V W) (g : Fin 8) (l : Fin 128) :
    Unit.r V sg s6 (ix2 g l) = rS D sg s6 c (8 * n + g.val) l := by
  rw [Unit.r_at, h.col]; rfl

theorem Loaded.f {c n V W} (h : Loaded D B c n V W) (g : Fin 8) (l : Fin 128) (t : ℕ) (ht : t < 16) :
    Unit.fcol V W sg s s6 g l t = fS D B sg s s6 c (8 * n + g.val) l t := by
  unfold Unit.fcol fS
  rw [h.col, h.rcol g l t ht]

theorem Loaded.code {c n V W} (h : Loaded D B c n V W) (g : Fin 8) (l : Fin 128) (hh : ℕ) (h2 : hh < 2) (b : Fin 4) :
    BitVec.extractLsb' (8 * b.val) 8 (Unit.codes V W sg s s6 hh (ix2 g l)) =
      packByte (fS D B sg s s6 c (8 * n + g.val) l (8 * hh + 2 * b.val))
        (fS D B sg s s6 c (8 * n + g.val) l (8 * hh + 2 * b.val + 1)) := by
  rw [Unit.codes_at V W sg s s6 g l hh h2 b.val b.isLt, h.f sg s s6 g l _ (by omega), h.f sg s s6 g l _ (by omega)]

theorem Loaded.val {c n V W} (h : Loaded D B c n V W) (l : Fin 128) (q : Fin 128) :
    Unit.vals V W sg s s6 (ix3 0 l q) =
      Ideal.e4m3fn (fS D B sg s s6 c (8 * n + q.val % 32 / 4) l (tq q.val)) *
        rS D sg s6 c (8 * n + q.val % 32 / 4) l := by
  have e := Unit.vals_at V W sg s s6 l ⟨q.val / 64, by omega⟩ ⟨q.val % 64 / 32, by omega⟩ ⟨q.val % 32 / 4, by omega⟩
    ⟨q.val % 4, by omega⟩
  have hq : (⟨32 * (2 * (q.val / 64) + q.val % 64 / 32) + 4 * (q.val % 32 / 4) + q.val % 4, by omega⟩ : Fin 128) = q :=
    Fin.ext (by show 32 * (2 * (q.val / 64) + q.val % 64 / 32) + 4 * (q.val % 32 / 4) + q.val % 4 = q.val; omega)
  rw [hq] at e
  rw [e, h.f sg s s6 _ _ _ (by show 8 * (q.val / 64) + 2 * (q.val % 4) + q.val % 64 / 32 < 16; omega), h.col]
  have ht : 8 * (q.val / 64) + 2 * (q.val % 4) + q.val % 64 / 32 = tq q.val := by unfold tq; omega
  simp only [ht]
  rfl

/-- One more unit of scales. -/
theorem I13_step (v : View sig κ sp S2x128x128 .f32) (f : v.ty.Contents (Elt Ideal)) (n : ℕ) (hn : n < 14)
    (o1 o0 : Fin 3 → ℕ) (inb1 inb0) (h1 : o1 = ![1, 8 * n, 0]) (h0 : o0 = ![0, 8 * n, 0])
    {V1 V0 : Vec Ideal S128x128 .bf16} {W1 W0 : Vec Ideal S128x128 .i8} (L1 : Loaded D B 1 n V1 W1) (L0 : Loaded D B 0 n V0 W0)
    (hf : I13 D sg s6 n (v.read (Elt Ideal) f)) :
    I13 D sg s6 (n + 1) (v.read (Elt Ideal) (v.writes (Elt Ideal) f
      [⟨Rect.unit (s := S2x128x128) o1 S1x8x128.size inb1, shapeCast S1x8x128 (Unit.r V1 sg s6) shapeCasts_S8x128_S1x8x128⟩,
       ⟨Rect.unit (s := S2x128x128) o0 S1x8x128.size inb0, shapeCast S1x8x128 (Unit.r V0 sg s6) shapeCasts_S8x128_S1x8x128⟩])) := by
  intro c G l hG
  rw [step13 v f n o1 o0 inb1 inb0 h1 h0]
  by_cases h : 8 * n ≤ G.val ∧ G.val < 8 * n + 8
  · rw [dif_pos h]
    have e1 := L1.r sg s6 ⟨G.val - 8 * n, by omega⟩ l
    have e0 := L0.r sg s6 ⟨G.val - 8 * n, by omega⟩ l
    have hg : 8 * n + (G.val - 8 * n) = G.val := by omega
    simp only [hg] at e1 e0
    by_cases hc : c = 1
    · subst hc
      rw [if_pos rfl]
      pointwise [← e1]
    · obtain rfl : c = 0 := by omega
      rw [if_neg (by decide)]
      pointwise [← e0]
  · rw [dif_neg h]
    exact hf c G l (by omega)

/-- One more unit of code words. -/
theorem I12_step (v : View sig κ sp S2x224x128 .i32) (f : v.ty.Contents (Elt Ideal)) (n : ℕ) (hn : n < 14)
    (o11 o10 o01 o00 : Fin 3 → ℕ) (inb11 inb10 inb01 inb00) (h11 : o11 = ![1, 16 * n + 1, 0]) (h10 : o10 = ![1, 16 * n + 0, 0])
    (h01 : o01 = ![0, 16 * n + 1, 0]) (h00 : o00 = ![0, 16 * n + 0, 0])
    {V1 V0 : Vec Ideal S128x128 .bf16} {W1 W0 : Vec Ideal S128x128 .i8} (L1 : Loaded D B 1 n V1 W1) (L0 : Loaded D B 0 n V0 W0)
    (hf : I12 D B sg s s6 n (v.read (Elt Ideal) f)) :
    I12 D B sg s s6 (n + 1) (v.read (Elt Ideal) (v.writes (Elt Ideal) f
      [⟨⟨(⟨o11, S1x8x128.size, ![1, 2, 1], inb11⟩ : LoadRect S2x224x128), spos_1_2_1⟩, shapeCast S1x8x128 (Unit.codes V1 W1 sg s s6 1) shapeCasts_S8x128_S1x8x128⟩,
       ⟨⟨(⟨o10, S1x8x128.size, ![1, 2, 1], inb10⟩ : LoadRect S2x224x128), spos_1_2_1⟩, shapeCast S1x8x128 (Unit.codes V1 W1 sg s s6 0) shapeCasts_S8x128_S1x8x128⟩,
       ⟨⟨(⟨o01, S1x8x128.size, ![1, 2, 1], inb01⟩ : LoadRect S2x224x128), spos_1_2_1⟩, shapeCast S1x8x128 (Unit.codes V0 W0 sg s s6 1) shapeCasts_S8x128_S1x8x128⟩,
       ⟨⟨(⟨o00, S1x8x128.size, ![1, 2, 1], inb00⟩ : LoadRect S2x224x128), spos_1_2_1⟩, shapeCast S1x8x128 (Unit.codes V0 W0 sg s s6 0) shapeCasts_S8x128_S1x8x128⟩])) := by
  intro c ρ l b hρ
  rw [step12 v f n o11 o10 o01 o00 inb11 inb10 inb01 inb00 h11 h10 h01 h00]
  by_cases h : 16 * n ≤ ρ.val ∧ ρ.val < 16 * n + 16
  · rw [dif_pos h]
    have e : ∀ {c V W}, Loaded D B c n V W → ∀ hh, hh < 2 → ρ.val % 2 = hh →
        BitVec.extractLsb' (8 * b.val) 8 (shapeCast S1x8x128 (Unit.codes V W sg s s6 hh) shapeCasts_S8x128_S1x8x128
          (ix3 0 ⟨(ρ.val - 16 * n) / 2, by omega⟩ l)) =
        packByte (fS D B sg s s6 c (ρ.val / 2) l (8 * (ρ.val % 2) + 2 * b.val))
          (fS D B sg s s6 c (ρ.val / 2) l (8 * (ρ.val % 2) + 2 * b.val + 1)) := by
      intro c V W L hh h2 hr
      have e := L.code sg s s6 ⟨(ρ.val - 16 * n) / 2, by omega⟩ l hh h2 b
      have hg : 8 * n + (ρ.val - 16 * n) / 2 = ρ.val / 2 := by omega
      simp only [hg] at e
      rw [hr, ← e]
      pointwise
    by_cases hc : c = 1 <;> by_cases hr : ρ.val % 2 = 1
    · rw [if_pos hc, if_pos hr, hc]; exact e L1 1 (by omega) hr
    · rw [if_pos hc, if_neg hr, hc]; exact e L1 0 (by omega) (by omega)
    · rw [if_neg hc, if_pos hr, show c = 0 by omega]; exact e L0 1 (by omega) hr
    · rw [if_neg hc, if_neg hr, show c = 0 by omega]; exact e L0 0 (by omega) (by omega)
  · rw [dif_neg h]
    exact hf c ρ l b (by omega)

/-- One more unit of dequantised values. -/
theorem I11_step (v : View sig κ sp S2x256x1792 .bf16) (f : v.ty.Contents (Elt Ideal)) (n sl : ℕ) (hn : n < 14)
    (prev : S2x256x1792.Idx → EReal)
    (o1 o0 : Fin 3 → ℕ) (inb1 inb0) (h1 : o1 = ![sl, 128, 128 * n]) (h0 : o0 = ![sl, 0, 128 * n])
    {V1 V0 : Vec Ideal S128x128 .bf16} {W1 W0 : Vec Ideal S128x128 .i8} (L1 : Loaded D B 1 n V1 W1) (L0 : Loaded D B 0 n V0 W0)
    (hf : I11 D B sg s s6 n sl prev (v.read (Elt Ideal) f)) :
    I11 D B sg s s6 (n + 1) sl prev (v.read (Elt Ideal) (v.writes (Elt Ideal) f
      [⟨Rect.unit (s := S2x256x1792) o1 S1x128x128.size inb1, Unit.vals V1 W1 sg s s6⟩,
       ⟨Rect.unit (s := S2x256x1792) o0 S1x128x128.size inb0, Unit.vals V0 W0 sg s s6⟩])) := by
  intro c p q
  rw [step11 v f n sl o1 o0 inb1 inb0 h1 h0]
  refine ⟨fun hc hq => ?_, fun hc => ?_⟩
  · by_cases h : c.val = sl ∧ 128 * n ≤ q.val ∧ q.val < 128 * n + 128
    · rw [dif_pos h]
      unfold lS
      have hr : q.val - 128 * n = q.val % 128 := by omega
      have hn' : n = q.val / 128 := by omega
      have hg : 8 * n + (q.val - 128 * n) % 32 / 4 = gq q.val := by
        rw [hr, hn', Nat.mod_mod_of_dvd _ (by decide)]; unfold gq; rw [Nat.mul_comm]
      have ht : tq (q.val - 128 * n) = tq q.val := by
        rw [hr]; unfold tq
        rw [Nat.mod_mod, Nat.mod_mod_of_dvd _ (by decide), Nat.mod_mod_of_dvd _ (by decide)]
      by_cases hp : 128 ≤ p.val
      · rw [if_pos hp, L1.val]
        simp only [hg, ht]
        rw [show (⟨p.val / 128, by omega⟩ : Fin 2) = 1 from Fin.ext (by show p.val / 128 = 1; omega)]
      · rw [if_neg hp, L0.val]
        simp only [hg, ht]
        rw [show (⟨p.val / 128, by omega⟩ : Fin 2) = 0 from Fin.ext (by show p.val / 128 = 0; omega)]
    · rw [dif_neg h]
      exact (hf c p q).1 hc (by omega)
  · rw [dif_neg (by omega)]
    exact (hf c p q).2 hc

end Cert.KernelIdeal.Hand

end
-- ==== Proof.Fins.lean ====
/- What a step stores in the blocks of codes, of scales and of the product, read at any place. -/
module

public import proofs.«01_k».proof.Proof.Inv
public import proofs.«01_k».proof.Proof.Runs
public import Idealize.ShloMosaic.Lib.BitcastFour

@[expose] public section

set_option maxRecDepth 16384

noncomputable section

namespace Cert.KernelIdeal.Hand

open Idealize.ShloMosaic
open Cert.KernelIdeal.Gen Cert.Quant

variable (D : Fin 2 → S1792x128.Idx → EReal) (B : Fin 2 → S1792x128.Idx → BitVec 8) (sg : Fin 16 → EReal) (s s6 : EReal)

theorem pay8_at (v : Vec Ideal S1x128x128 .f32) (l : Fin 128) (G : Fin 112) :
    k0_pay8 v (ix2 l G) = v (ix3 0 ⟨G.val, by omega⟩ l) := by
  pointwise [k0_pay8]

theorem pay6_at (v : Vec Ideal S1x128x128 .f32) (l : Fin 128) (G : Fin 112) :
    k0_pay6 v (ix2 l G) = v (ix3 0 ⟨G.val, by omega⟩ l) := by
  pointwise [k0_pay6]

/-- A byte of a word read as eight-bit elements. -/
theorem byte_of_words (v : IVec S224x128 32) (k : Fin 896) (l : Fin 128) :
    bitcast S896x128 8 v bitcasts_S224x128_w32_S896x128_w8 (ix2 k l) =
      BitVec.extractLsb' (8 * (k.val % 4)) 8 (v (ix2 ⟨k.val / 4, by omega⟩ l)) := by
  apply BitVec.eq_of_getLsbD_eq
  intro q hq
  rw [bitcast_getLsbD v _ _ q hq (by decide), BitVec.getLsbD_extractLsb']
  have hrow : S896x128.row (ix2 k l) = k.val := rfl
  have e1 : (S896x128.row (ix2 k l) * 8 + q) / 32 = k.val / 4 := by rw [hrow]; omega
  have e2 : (S896x128.row (ix2 k l) * 8 + q) % 32 = 8 * (k.val % 4) + q := by rw [hrow]; omega
  rw [e2]
  simp only [hq, decide_true, Bool.true_and]
  congr 2
  funext c
  match c with
  | ⟨0, _⟩ => exact Fin.ext ((bitcasts_S224x128_w32_S896x128_w8.srcIdx_row _ _ _ ⟨0, Nat.zero_lt_two⟩ rfl).trans e1)
  | ⟨1, _⟩ => exact Fin.ext (bitcasts_S224x128_w32_S896x128_w8.srcIdx_other _ _ _ ⟨1, Nat.one_lt_two⟩ (by show ¬ 1 + 2 = 2; omega))

theorem pay5_at (v : Vec Ideal S1x224x128 .i32) (l : Fin 128) (k : Fin 896) :
    k0_pay5 v (ix2 l k) = BitVec.extractLsb' (8 * (k.val % 4)) 8 (v (ix3 0 ⟨k.val / 4, by omega⟩ l)) := by
  pointwise [k0_pay5]
  rw [byte_of_words]
  pointwise

theorem pay7_at (v : Vec Ideal S1x224x128 .i32) (l : Fin 128) (k : Fin 896) :
    k0_pay7 v (ix2 l k) = BitVec.extractLsb' (8 * (k.val % 4)) 8 (v (ix3 0 ⟨k.val / 4, by omega⟩ l)) := by
  pointwise [k0_pay7]
  rw [byte_of_words]
  pointwise

theorem pay1_at (a : EReal) (v : Vec Ideal S1x256x1792 .bf16) (w : Vec Ideal S1792x512 .bf16) (p : Fin 256) (n : Fin 512) :
    k0_pay1 (F := Ideal) a v w (ix2 p n) = (∑ q : Fin 1792, v (ix3 0 p q) * w (ix2 q n)) * a := by
  pointwise [k0_pay1]

/-- Two stores that share a block's rows half and half, read at a place. -/
theorem halves {sig : RefSig} {κ : Kind} {sp : Space} {e : EltTy} {N : ℕ} (v : View sig κ sp (⟨2, ![256, N]⟩ : Shape) e)
    (f : v.ty.Contents (Elt Ideal)) (inb1 inb0) (A1 A0 : (⟨2, ![128, N]⟩ : Shape).Idx → Elt Ideal e) (p : Fin 256) (k : Fin N) :
    v.read (Elt Ideal) (v.writes (Elt Ideal) f
      [⟨Rect.unit (s := ⟨2, ![256, N]⟩) ![128, 0] (⟨2, ![128, N]⟩ : Shape).size inb1, A1⟩,
       ⟨Rect.unit (s := ⟨2, ![256, N]⟩) ![0, 0] (⟨2, ![128, N]⟩ : Shape).size inb0, A0⟩]) (ix2 p k) =
      (if 128 ≤ p.val then A1 else A0) (ix2 ⟨p.val % 128, by omega⟩ k) := by
  by_cases hp : 128 ≤ p.val
  · rw [if_pos hp]
    refine View.read_writes_cons_unit_of_mem v f inb1 A1 _ _ (ix2 ⟨p.val % 128, by omega⟩ k) rfl ?_
    intro a
    fin_cases a
    · show p.val = 128 + p.val % 128; omega
    · show k.val = 0 + k.val; omega
  · rw [if_neg hp]
    rw [View.read_writes_cons_unit_of_not_mem v f inb1 A1 _ _ rfl 0 (Or.inl (by show p.val < 128; omega))]
    refine View.read_writes_cons_unit_of_mem v f inb0 A0 _ _ (ix2 ⟨p.val % 128, by omega⟩ k) rfl ?_
    intro a
    fin_cases a
    · show p.val = 0 + p.val % 128; omega
    · show k.val = 0 + k.val; omega

variable {sig : RefSig}

/-- The block of codes that a step stores. -/
theorem P9_at (arg12 : Memref KernelIdeal.sig .tc .vmem S2x224x128 .i32) (f12 : BufTy.Contents (Elt Ideal) arg12.view.ty)
    (arg9 : Memref KernelIdeal.sig .tc .vmem S256x896 .i8) (f9 : BufTy.Contents (Elt Ideal) arg9.view.ty)
    (h : I12 D B sg s s6 14 (arg12.view.read (Elt Ideal) f12)) (p : Fin 256) (k : Fin 896) :
    arg9.view.read (Elt Ideal) (arg9.view.writes (Elt Ideal) f9 (P9 arg12 f12)) (ix2 p k) = cS D B sg s s6 p k.val := by
  have e := h ⟨p.val / 128, by omega⟩ ⟨k.val / 4, by omega⟩ ⟨p.val % 128, by omega⟩ ⟨k.val % 4, by omega⟩
    (by show k.val / 4 < 16 * 14; omega)
  have e1 : k.val / 4 / 2 = k.val / 8 := by omega
  have e2 : 8 * (k.val / 4 % 2) + 2 * (k.val % 4) = 2 * (k.val % 8) := by omega
  simp only [e1, e2] at e
  unfold cS
  rw [← e]
  refine (halves arg9.view f9 inb_S256x896_S128x896_128_0 inb_S256x896_S128x896_0_0 _ _ p k).trans ?_
  by_cases hp : 128 ≤ p.val
  · rw [if_pos hp, pay7_at]
    show BitVec.extractLsb' _ 8 (arg12.view.read (Elt Ideal) f12 _) = _
    congr 2
    funext a
    fin_cases a
    · apply Fin.ext; show 1 + 1 * 0 = p.val / 128; omega
    · apply Fin.ext; show 0 + 1 * (k.val / 4) = k.val / 4; omega
    · apply Fin.ext; show 0 + 1 * (p.val % 128) = p.val % 128; omega
  · rw [if_neg hp, pay5_at]
    show BitVec.extractLsb' _ 8 (arg12.view.read (Elt Ideal) f12 _) = _
    congr 2
    funext a
    fin_cases a
    · apply Fin.ext; show 0 + 1 * 0 = p.val / 128; omega
    · apply Fin.ext; show 0 + 1 * (k.val / 4) = k.val / 4; omega
    · apply Fin.ext; show 0 + 1 * (p.val % 128) = p.val % 128; omega

/-- The block of scales that a step stores. -/
theorem P10_at (arg13 : Memref KernelIdeal.sig .tc .vmem S2x128x128 .f32) (f13 : BufTy.Contents (Elt Ideal) arg13.view.ty)
    (arg10 : Memref KernelIdeal.sig .tc .vmem S256x112 .fp8e4m3) (f10 : BufTy.Contents (Elt Ideal) arg10.view.ty)
    (h : I13 D sg s6 14 (arg13.view.read (Elt Ideal) f13)) (p : Fin 256) (k : Fin 112) :
    arg10.view.read (Elt Ideal) (arg10.view.writes (Elt Ideal) f10 (P10 arg13 f13)) (ix2 p k) =
      rS D sg s6 ⟨p.val / 128, by omega⟩ k.val ⟨p.val % 128, by omega⟩ := by
  have e := h ⟨p.val / 128, by omega⟩ ⟨k.val, by omega⟩ ⟨p.val % 128, by omega⟩ (by show k.val < 8 * 14; omega)
  rw [← e]
  refine (halves arg10.view f10 inb_S256x112_S128x112_128_0 inb_S256x112_S128x112_0_0 _ _ p k).trans ?_
  by_cases hp : 128 ≤ p.val
  · rw [if_pos hp, pay8_at]
    show arg13.view.read (Elt Ideal) f13 _ = _
    congr 1
    funext a
    fin_cases a
    · apply Fin.ext; show 1 + 1 * 0 = p.val / 128; omega
    · apply Fin.ext; show 0 + 1 * k.val = k.val; omega
    · apply Fin.ext; show 0 + 1 * (p.val % 128) = p.val % 128; omega
  · rw [if_neg hp, pay6_at]
    show arg13.view.read (Elt Ideal) f13 _ = _
    congr 1
    funext a
    fin_cases a
    · apply Fin.ext; show 0 + 1 * 0 = p.val / 128; omega
    · apply Fin.ext; show 0 + 1 * k.val = k.val; omega
    · apply Fin.ext; show 0 + 1 * (p.val % 128) = p.val % 128; omega

/-- The first `j` blocks of columns hold the product. -/
def I8 (j : ℕ) (pv : Fin 256 → Fin 1792 → EReal) (xq : S1792x3584.Idx → EReal) (a : EReal) (x : S256x3584.Idx → EReal) : Prop :=
  ∀ (p : Fin 256) (n : Fin 3584), n.val < 512 * j → x (ix2 p n) = (∑ q : Fin 1792, pv p q * xq (ix2 q n)) * a

/-- One more block of columns. -/
theorem I8_step (arg8 : Memref KernelIdeal.sig .tc .vmem S256x3584 .f32) (f8 : BufTy.Contents (Elt Ideal) arg8.view.ty)
    (j : ℕ) (hj : j < 7) (pv : Fin 256 → Fin 1792 → EReal) (xq : S1792x3584.Idx → EReal) (a : EReal) (o : Fin 2 → ℕ) (inb)
    (ho : o = ![0, 512 * j]) (v : Vec Ideal S1x256x1792 .bf16) (w : Vec Ideal S1792x512 .bf16)
    (hv : ∀ p q, v (ix3 0 p q) = pv p q) (hw : ∀ (q : Fin 1792) (n : Fin 512), w (ix2 q n) = xq (ix2 q ⟨512 * j + n.val, by omega⟩))
    (h : I8 j pv xq a (arg8.view.read (Elt Ideal) f8)) :
    I8 (j + 1) pv xq a (arg8.view.read (Elt Ideal) (arg8.view.writes (Elt Ideal) f8
      [⟨Rect.unit (s := S256x3584) o S256x512.size inb, k0_pay1 (F := Ideal) a v w⟩])) := by
  intro p n hn
  by_cases hin : 512 * j ≤ n.val
  · refine (View.read_writes_cons_unit_of_mem arg8.view f8 inb _ _ _ (ix2 p ⟨n.val - 512 * j, by omega⟩) ho ?_).trans ?_
    · intro a
      fin_cases a
      · show p.val = 0 + p.val; omega
      · show n.val = 512 * j + (n.val - 512 * j); omega
    · rw [pay1_at]
      congr 1
      refine Finset.sum_congr rfl fun q _ => ?_
      rw [hv, hw]
      congr 3
      exact Fin.ext (by show 512 * j + (n.val - 512 * j) = n.val; omega)
  · rw [View.read_writes_cons_unit_of_not_mem arg8.view f8 inb _ _ _ ho 1 (Or.inl (by show n.val < 512 * j; omega))]
    exact h p n (by omega)

end Cert.KernelIdeal.Hand

end
-- ==== Proof.Pieces.lean ====
/- The pieces that one trip of each loop writes are the unit's operations on the blocks it loads. -/
module

public import proofs.«01_k».proof.Proof.Gen.KernelIdeal.Frame
public import proofs.«01_k».proof.Proof.Gen.KernelIdeal.Skeleton
public import proofs.«01_k».proof.Proof.Unit
public import proofs.«01_k».proof.Proof.Trips

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)
  (v0 : BitVec 32) (v12 v16 v20 v24 v28 v32 v36 v40 v44 v48 v52 v56 v60 v64 v68 v72 : F .f32) (v73 v74 : Elt F .f32)
/-- The scales that one trip of `k0_t1_loop` writes. -/
theorem trip1_13 (h : k0_cond1 i = 1#1) (k : Fin k0_t1_loop.trips) (X3 : BufTy.Contents (Elt F) arg3.view.ty) (X4 : BufTy.Contents (Elt F) arg4.view.ty) (X5 : BufTy.Contents (Elt F) arg5.view.ty) (X6 : BufTy.Contents (Elt F) arg6.view.ty) : (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h k X3 X4 X5 X6).2.2.1 =
    [⟨Rect.unit (s := S2x128x128) (k0_off5 k) S1x8x128.size (k0_off5_inb i k h), shapeCast S1x8x128 (Unit.r (View.readAt (Elt F) arg4.view (Rect.unit (s := S1792x128) (k0_off1 k) S128x128.size (k0_off1_inb i k h)).toLoadRect X4) ![v12, v16, v20, v24, v28, v32, v36, v40, v44, v48, v52, v56, v60, v64, v68, v72] v74) shapeCasts_S8x128_S1x8x128⟩,
     ⟨Rect.unit (s := S2x128x128) (k0_off2 k) S1x8x128.size (k0_off2_inb i k h), shapeCast S1x8x128 (Unit.r (View.readAt (Elt F) arg3.view (Rect.unit (s := S1792x128) (k0_off1 k) S128x128.size (k0_off1_inb i k h)).toLoadRect X3) ![v12, v16, v20, v24, v28, v32, v36, v40, v44, v48, v52, v56, v60, v64, v68, v72] v74) shapeCasts_S8x128_S1x8x128⟩] := rfl

/-- The code words that one trip of `k0_t1_loop` writes. -/
theorem trip1_12 (h : k0_cond1 i = 1#1) (k : Fin k0_t1_loop.trips) (X3 : BufTy.Contents (Elt F) arg3.view.ty) (X4 : BufTy.Contents (Elt F) arg4.view.ty) (X5 : BufTy.Contents (Elt F) arg5.view.ty) (X6 : BufTy.Contents (Elt F) arg6.view.ty) : (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h k X3 X4 X5 X6).2.1 =
    [⟨⟨(⟨k0_off7 k 1#32, S1x8x128.size, ![1, 2, 1], (k0_off7_inb i k h 1)⟩ : LoadRect S2x224x128), spos_1_2_1⟩, shapeCast S1x8x128 (Unit.codes (View.readAt (Elt F) arg4.view (Rect.unit (s := S1792x128) (k0_off1 k) S128x128.size (k0_off1_inb i k h)).toLoadRect X4) (View.readAt (Elt F) arg6.view (Rect.unit (s := S1792x128) (k0_off1 k) S128x128.size (k0_off1_inb i k h)).toLoadRect X6) ![v12, v16, v20, v24, v28, v32, v36, v40, v44, v48, v52, v56, v60, v64, v68, v72] v73 v74 1) shapeCasts_S8x128_S1x8x128⟩,
     ⟨⟨(⟨k0_off7 k 0#32, S1x8x128.size, ![1, 2, 1], (k0_off7_inb i k h 0)⟩ : LoadRect S2x224x128), spos_1_2_1⟩, shapeCast S1x8x128 (Unit.codes (View.readAt (Elt F) arg4.view (Rect.unit (s := S1792x128) (k0_off1 k) S128x128.size (k0_off1_inb i k h)).toLoadRect X4) (View.readAt (Elt F) arg6.view (Rect.unit (s := S1792x128) (k0_off1 k) S128x128.size (k0_off1_inb i k h)).toLoadRect X6) ![v12, v16, v20, v24, v28, v32, v36, v40, v44, v48, v52, v56, v60, v64, v68, v72] v73 v74 0) shapeCasts_S8x128_S1x8x128⟩,
     ⟨⟨(⟨k0_off4 k 1#32, S1x8x128.size, ![1, 2, 1], (k0_off4_inb i k h 1)⟩ : LoadRect S2x224x128), spos_1_2_1⟩, shapeCast S1x8x128 (Unit.codes (View.readAt (Elt F) arg3.view (Rect.unit (s := S1792x128) (k0_off1 k) S128x128.size (k0_off1_inb i k h)).toLoadRect X3) (View.readAt (Elt F) arg5.view (Rect.unit (s := S1792x128) (k0_off1 k) S128x128.size (k0_off1_inb i k h)).toLoadRect X5) ![v12, v16, v20, v24, v28, v32, v36, v40, v44, v48, v52, v56, v60, v64, v68, v72] v73 v74 1) shapeCasts_S8x128_S1x8x128⟩,
     ⟨⟨(⟨k0_off4 k 0#32, S1x8x128.size, ![1, 2, 1], (k0_off4_inb i k h 0)⟩ : LoadRect S2x224x128), spos_1_2_1⟩, shapeCast S1x8x128 (Unit.codes (View.readAt (Elt F) arg3.view (Rect.unit (s := S1792x128) (k0_off1 k) S128x128.size (k0_off1_inb i k h)).toLoadRect X3) (View.readAt (Elt F) arg5.view (Rect.unit (s := S1792x128) (k0_off1 k) S128x128.size (k0_off1_inb i k h)).toLoadRect X5) ![v12, v16, v20, v24, v28, v32, v36, v40, v44, v48, v52, v56, v60, v64, v68, v72] v73 v74 0) shapeCasts_S8x128_S1x8x128⟩] := rfl

/-- The dequantised values that one trip of `k0_t1_loop` writes. -/
theorem trip1_11 (h : k0_cond1 i = 1#1) (k : Fin k0_t1_loop.trips) (X3 : BufTy.Contents (Elt F) arg3.view.ty) (X4 : BufTy.Contents (Elt F) arg4.view.ty) (X5 : BufTy.Contents (Elt F) arg5.view.ty) (X6 : BufTy.Contents (Elt F) arg6.view.ty) : (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h k X3 X4 X5 X6).1 =
    [⟨Rect.unit (s := S2x256x1792) (k0_off6 i k) S1x128x128.size (k0_off6_inb i k h), Unit.vals (View.readAt (Elt F) arg4.view (Rect.unit (s := S1792x128) (k0_off1 k) S128x128.size (k0_off1_inb i k h)).toLoadRect X4) (View.readAt (Elt F) arg6.view (Rect.unit (s := S1792x128) (k0_off1 k) S128x128.size (k0_off1_inb i k h)).toLoadRect X6) ![v12, v16, v20, v24, v28, v32, v36, v40, v44, v48, v52, v56, v60, v64, v68, v72] v73 v74⟩,
     ⟨Rect.unit (s := S2x256x1792) (k0_off3 i k) S1x128x128.size (k0_off3_inb i k h), Unit.vals (View.readAt (Elt F) arg3.view (Rect.unit (s := S1792x128) (k0_off1 k) S128x128.size (k0_off1_inb i k h)).toLoadRect X3) (View.readAt (Elt F) arg5.view (Rect.unit (s := S1792x128) (k0_off1 k) S128x128.size (k0_off1_inb i k h)).toLoadRect X5) ![v12, v16, v20, v24, v28, v32, v36, v40, v44, v48, v52, v56, v60, v64, v68, v72] v73 v74⟩] := rfl

/-- The scales that one trip of `k0_t3_loop` writes. -/
theorem trip3_13 (h : k0_cond2 i = 1#1) (j : Fin k0_t2_loop.trips) (v106 : BitVec 32) (k : Fin k0_t3_loop.trips) (X3 : BufTy.Contents (Elt F) arg3.view.ty) (X4 : BufTy.Contents (Elt F) arg4.view.ty) (X5 : BufTy.Contents (Elt F) arg5.view.ty) (X6 : BufTy.Contents (Elt F) arg6.view.ty) : (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h j v106 k X3 X4 X5 X6).2.2.1 =
    [⟨Rect.unit (s := S2x128x128) (k0_off15 j k) S1x8x128.size (k0_off15_inb i j k h), shapeCast S1x8x128 (Unit.r (View.readAt (Elt F) arg4.view (Rect.unit (s := S1792x128) (k0_off11 j k) S128x128.size (k0_off11_inb i j k h)).toLoadRect X4) ![v12, v16, v20, v24, v28, v32, v36, v40, v44, v48, v52, v56, v60, v64, v68, v72] v74) shapeCasts_S8x128_S1x8x128⟩,
     ⟨Rect.unit (s := S2x128x128) (k0_off12 j k) S1x8x128.size (k0_off12_inb i j k h), shapeCast S1x8x128 (Unit.r (View.readAt (Elt F) arg3.view (Rect.unit (s := S1792x128) (k0_off11 j k) S128x128.size (k0_off11_inb i j k h)).toLoadRect X3) ![v12, v16, v20, v24, v28, v32, v36, v40, v44, v48, v52, v56, v60, v64, v68, v72] v74) shapeCasts_S8x128_S1x8x128⟩] := rfl

/-- The code words that one trip of `k0_t3_loop` writes. -/
theorem trip3_12 (h : k0_cond2 i = 1#1) (j : Fin k0_t2_loop.trips) (v106 : BitVec 32) (k : Fin k0_t3_loop.trips) (X3 : BufTy.Contents (Elt F) arg3.view.ty) (X4 : BufTy.Contents (Elt F) arg4.view.ty) (X5 : BufTy.Contents (Elt F) arg5.view.ty) (X6 : BufTy.Contents (Elt F) arg6.view.ty) : (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h j v106 k X3 X4 X5 X6).2.1 =
    [⟨⟨(⟨k0_off17 j k 1#32, S1x8x128.size, ![1, 2, 1], (k0_off17_inb i j k h 1)⟩ : LoadRect S2x224x128), spos_1_2_1⟩, shapeCast S1x8x128 (Unit.codes (View.readAt (Elt F) arg4.view (Rect.unit (s := S1792x128) (k0_off11 j k) S128x128.size (k0_off11_inb i j k h)).toLoadRect X4) (View.readAt (Elt F) arg6.view (Rect.unit (s := S1792x128) (k0_off11 j k) S128x128.size (k0_off11_inb i j k h)).toLoadRect X6) ![v12, v16, v20, v24, v28, v32, v36, v40, v44, v48, v52, v56, v60, v64, v68, v72] v73 v74 1) shapeCasts_S8x128_S1x8x128⟩,
     ⟨⟨(⟨k0_off17 j k 0#32, S1x8x128.size, ![1, 2, 1], (k0_off17_inb i j k h 0)⟩ : LoadRect S2x224x128), spos_1_2_1⟩, shapeCast S1x8x128 (Unit.codes (View.readAt (Elt F) arg4.view (Rect.unit (s := S1792x128) (k0_off11 j k) S128x128.size (k0_off11_inb i j k h)).toLoadRect X4) (View.readAt (Elt F) arg6.view (Rect.unit (s := S1792x128) (k0_off11 j k) S128x128.size (k0_off11_inb i j k h)).toLoadRect X6) ![v12, v16, v20, v24, v28, v32, v36, v40, v44, v48, v52, v56, v60, v64, v68, v72] v73 v74 0) shapeCasts_S8x128_S1x8x128⟩,
     ⟨⟨(⟨k0_off14 j k 1#32, S1x8x128.size, ![1, 2, 1], (k0_off14_inb i j k h 1)⟩ : LoadRect S2x224x128), spos_1_2_1⟩, shapeCast S1x8x128 (Unit.codes (View.readAt (Elt F) arg3.view (Rect.unit (s := S1792x128) (k0_off11 j k) S128x128.size (k0_off11_inb i j k h)).toLoadRect X3) (View.readAt (Elt F) arg5.view (Rect.unit (s := S1792x128) (k0_off11 j k) S128x128.size (k0_off11_inb i j k h)).toLoadRect X5) ![v12, v16, v20, v24, v28, v32, v36, v40, v44, v48, v52, v56, v60, v64, v68, v72] v73 v74 1) shapeCasts_S8x128_S1x8x128⟩,
     ⟨⟨(⟨k0_off14 j k 0#32, S1x8x128.size, ![1, 2, 1], (k0_off14_inb i j k h 0)⟩ : LoadRect S2x224x128), spos_1_2_1⟩, shapeCast S1x8x128 (Unit.codes (View.readAt (Elt F) arg3.view (Rect.unit (s := S1792x128) (k0_off11 j k) S128x128.size (k0_off11_inb i j k h)).toLoadRect X3) (View.readAt (Elt F) arg5.view (Rect.unit (s := S1792x128) (k0_off11 j k) S128x128.size (k0_off11_inb i j k h)).toLoadRect X5) ![v12, v16, v20, v24, v28, v32, v36, v40, v44, v48, v52, v56, v60, v64, v68, v72] v73 v74 0) shapeCasts_S8x128_S1x8x128⟩] := rfl

/-- The dequantised values that one trip of `k0_t3_loop` writes. -/
theorem trip3_11 (h : k0_cond2 i = 1#1) (j : Fin k0_t2_loop.trips) (v106 : BitVec 32) (k : Fin k0_t3_loop.trips) (X3 : BufTy.Contents (Elt F) arg3.view.ty) (X4 : BufTy.Contents (Elt F) arg4.view.ty) (X5 : BufTy.Contents (Elt F) arg5.view.ty) (X6 : BufTy.Contents (Elt F) arg6.view.ty) : (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 h j v106 k X3 X4 X5 X6).1 =
    [⟨Rect.unit (s := S2x256x1792) (k0_off16 i j k) S1x128x128.size (k0_off16_inb i j k h), Unit.vals (View.readAt (Elt F) arg4.view (Rect.unit (s := S1792x128) (k0_off11 j k) S128x128.size (k0_off11_inb i j k h)).toLoadRect X4) (View.readAt (Elt F) arg6.view (Rect.unit (s := S1792x128) (k0_off11 j k) S128x128.size (k0_off11_inb i j k h)).toLoadRect X6) ![v12, v16, v20, v24, v28, v32, v36, v40, v44, v48, v52, v56, v60, v64, v68, v72] v73 v74⟩,
     ⟨Rect.unit (s := S2x256x1792) (k0_off13 i j k) S1x128x128.size (k0_off13_inb i j k h), Unit.vals (View.readAt (Elt F) arg3.view (Rect.unit (s := S1792x128) (k0_off11 j k) S128x128.size (k0_off11_inb i j k h)).toLoadRect X3) (View.readAt (Elt F) arg5.view (Rect.unit (s := S1792x128) (k0_off11 j k) S128x128.size (k0_off11_inb i j k h)).toLoadRect X5) ![v12, v16, v20, v24, v28, v32, v36, v40, v44, v48, v52, v56, v60, v64, v68, v72] v73 v74⟩] := rfl

end Cert.KernelIdeal.Hand

end
-- ==== Proof.Offs.lean ====
/- The offsets of the kernel's loads and stores, as numbers. -/
module

public import proofs.«01_k».proof.Proof.Gen.KernelIdeal.Frame
public import proofs.«01_k».proof.Proof.Gen.KernelIdeal.Skeleton
public import Idealize.ShloMosaic.Lib.Pointwise

@[expose] public section

set_option maxRecDepth 16384

noncomputable section

namespace Cert.KernelIdeal.Hand

open Idealize.ShloMosaic
open Cert.KernelIdeal.Gen

theorem trips1 : k0_t1_loop.trips = 14 := by decide +kernel
theorem trips2 : k0_t2_loop.trips = 7 := by decide +kernel
theorem trips3 : k0_t3_loop.trips = 2 := by decide +kernel

theorem off1_eq : ∀ k : Fin k0_t1_loop.trips, k0_off1 k = ![128 * k.val, 0] := by decide +kernel
theorem off2_eq : ∀ k : Fin k0_t1_loop.trips, k0_off2 k = ![0, 8 * k.val, 0] := by decide +kernel
theorem off5_eq : ∀ k : Fin k0_t1_loop.trips, k0_off5 k = ![1, 8 * k.val, 0] := by decide +kernel
theorem off4_eq : ∀ k : Fin k0_t1_loop.trips, ∀ h : Fin 2,
    k0_off4 k (BitVec.ofNat 32 h.val) = ![0, 16 * k.val + h.val, 0] := by decide +kernel
theorem off7_eq : ∀ k : Fin k0_t1_loop.trips, ∀ h : Fin 2,
    k0_off7 k (BitVec.ofNat 32 h.val) = ![1, 16 * k.val + h.val, 0] := by decide +kernel
theorem off9_eq : ∀ j : Fin k0_t2_loop.trips, k0_off9 j = ![0, 512 * j.val] := by decide +kernel
theorem off10_eq : ∀ j : Fin k0_t2_loop.trips, k0_off10 j = ![0, 512 * j.val] := by decide +kernel
theorem off11_eq : ∀ j : Fin k0_t2_loop.trips, ∀ k : Fin k0_t3_loop.trips,
    k0_off11 j k = ![128 * (2 * j.val + k.val), 0] := by decide +kernel
theorem off12_eq : ∀ j : Fin k0_t2_loop.trips, ∀ k : Fin k0_t3_loop.trips,
    k0_off12 j k = ![0, 8 * (2 * j.val + k.val), 0] := by decide +kernel
theorem off15_eq : ∀ j : Fin k0_t2_loop.trips, ∀ k : Fin k0_t3_loop.trips,
    k0_off15 j k = ![1, 8 * (2 * j.val + k.val), 0] := by decide +kernel
theorem off14_eq : ∀ j : Fin k0_t2_loop.trips, ∀ k : Fin k0_t3_loop.trips, ∀ h : Fin 2,
    k0_off14 j k (BitVec.ofNat 32 h.val) = ![0, 16 * (2 * j.val + k.val) + h.val, 0] := by decide +kernel
theorem off17_eq : ∀ j : Fin k0_t2_loop.trips, ∀ k : Fin k0_t3_loop.trips, ∀ h : Fin 2,
    k0_off17 j k (BitVec.ofNat 32 h.val) = ![1, 16 * (2 * j.val + k.val) + h.val, 0] := by decide +kernel

/-- The grid point of a number. -/
def crd (a : Fin 75) : grid0.Coords := fun x => ⟨a.val, by
  obtain rfl : x = 0 := Subsingleton.elim _ _
  exact a.isLt⟩

theorem off8_eq' : ∀ a : Fin 75, k0_off8 (crd a) = ![1 - a.val % 2, 0, 0] := by decide +kernel
theorem off3_eq' : ∀ (a : Fin 75) (k : Fin k0_t1_loop.trips),
    k0_off3 (crd a) k = ![a.val % 2, 0, 128 * k.val] := by decide +kernel
theorem off6_eq' : ∀ (a : Fin 75) (k : Fin k0_t1_loop.trips),
    k0_off6 (crd a) k = ![a.val % 2, 128, 128 * k.val] := by decide +kernel
theorem off13_eq' : ∀ (a : Fin 75) (j : Fin k0_t2_loop.trips) (k : Fin k0_t3_loop.trips),
    k0_off13 (crd a) j k = ![a.val % 2, 0, 128 * (2 * j.val + k.val)] := by decide +kernel
theorem off16_eq' : ∀ (a : Fin 75) (j : Fin k0_t2_loop.trips) (k : Fin k0_t3_loop.trips),
    k0_off16 (crd a) j k = ![a.val % 2, 128, 128 * (2 * j.val + k.val)] := by decide +kernel

theorem coords_const (i : grid0.Coords) : i = crd (i 0) := by
  funext a
  obtain rfl : a = 0 := Subsingleton.elim _ _
  rfl

theorem off8_eq (i : grid0.Coords) : k0_off8 i = ![1 - (i 0).val % 2, 0, 0] := by
  have h := off8_eq' (i 0); rwa [← coords_const i] at h
theorem off3_eq (i : grid0.Coords) (k) : k0_off3 i k = ![(i 0).val % 2, 0, 128 * k.val] := by
  have h := off3_eq' (i 0) k; rwa [← coords_const i] at h
theorem off6_eq (i : grid0.Coords) (k) : k0_off6 i k = ![(i 0).val % 2, 128, 128 * k.val] := by
  have h := off6_eq' (i 0) k; rwa [← coords_const i] at h
theorem off13_eq (i : grid0.Coords) (j k) : k0_off13 i j k = ![(i 0).val % 2, 0, 128 * (2 * j.val + k.val)] := by
  have h := off13_eq' (i 0) j k; rwa [← coords_const i] at h
theorem off16_eq (i : grid0.Coords) (j k) : k0_off16 i j k = ![(i 0).val % 2, 128, 128 * (2 * j.val + k.val)] := by
  have h := off16_eq' (i 0) j k; rwa [← coords_const i] at h

end Cert.KernelIdeal.Hand

end
-- ==== Proof.Keep.lean ====
/- One trip of each loop keeps what the scratch buffers hold: the units so far. -/
module

public import proofs.«01_k».proof.Proof.Fins
public import proofs.«01_k».proof.Proof.Pieces
public import proofs.«01_k».proof.Proof.Offs

@[expose] public section

set_option maxRecDepth 16384
set_option maxHeartbeats 1000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Quant

local notation "𝕄" => MT nD τ sig Unit (Elt Ideal) ℕ (UR sig nD τ) ℕ

/-- The signs' floats, token by token. -/
abbrev sgs (arg1 : Memref sig .tc .smem S8 .i32) (X1 : BufTy.Contents (Elt Ideal) arg1.view.ty) : Fin 16 → EReal :=
  ![sgn arg1 X1 ![0] inb_S8_S1_0 15#32, sgn arg1 X1 ![0] inb_S8_S1_0 31#32, sgn arg1 X1 ![1] inb_S8_S1_1 15#32, sgn arg1 X1 ![1] inb_S8_S1_1 31#32, sgn arg1 X1 ![2] inb_S8_S1_2 15#32, sgn arg1 X1 ![2] inb_S8_S1_2 31#32, sgn arg1 X1 ![3] inb_S8_S1_3 15#32, sgn arg1 X1 ![3] inb_S8_S1_3 31#32, sgn arg1 X1 ![4] inb_S8_S1_4 15#32, sgn arg1 X1 ![4] inb_S8_S1_4 31#32, sgn arg1 X1 ![5] inb_S8_S1_5 15#32, sgn arg1 X1 ![5] inb_S8_S1_5 31#32, sgn arg1 X1 ![6] inb_S8_S1_6 15#32, sgn arg1 X1 ![6] inb_S8_S1_6 31#32, sgn arg1 X1 ![7] inb_S8_S1_7 15#32, sgn arg1 X1 ![7] inb_S8_S1_7 31#32]

/-- Of the sixteen signs, the one at bit `b` of word `n`. -/
def sg1 (x1 : Vec Ideal S8 .i32) (n : Fin 8) (b : BitVec 32) : EReal :=
  Scalar.select (Scalar.cmpi .ne (Scalar.andi (Scalar.shrui (x1 (ix1 n)) b) 1#32) 0#32)
    (Scalar.ofBits (F := Ideal) .f32 0xBF800000#32) (Scalar.ofBits (F := Ideal) .f32 0x3F800000#32)

/-- The sixteen signs that the mask words hold. -/
def sgE (x1 : Vec Ideal S8 .i32) : Fin 16 → EReal :=
  fun t => sg1 x1 ⟨t.val / 2, by omega⟩ (if t.val % 2 = 0 then 15#32 else 31#32)

theorem sgn_eq (arg1 : Memref sig .tc .smem S8 .i32) (harg1 : arg1.IsWhole) (x1 : Vec Ideal S8 .i32) (n : Fin 8)
    (o : Fin 1 → ℕ) (ho) (h : o = ![n.val]) (b : BitVec 32) :
    sgn (F := Ideal) arg1 (harg1.unread x1) o ho b = sg1 x1 n b := by
  subst h
  unfold sgn sg1
  rw [View.readAt_apply, harg1.read_unread]
  congr 6
  funext a
  fin_cases a
  exact Fin.ext (by show n.val + 1 * 0 = n.val; omega)

theorem scl_eq (arg2 : Memref sig .tc .smem S3 .f32) (harg2 : arg2.IsWhole) (x2 : Vec Ideal S3 .f32) (n : Fin 3)
    (o : Fin 1 → ℕ) (ho) (h : o = ![n.val]) :
    scl (F := Ideal) arg2 (harg2.unread x2) o ho = x2 (ix1 n) := by
  subst h
  unfold scl
  rw [View.readAt_apply, harg2.read_unread]
  congr 1
  funext a
  fin_cases a
  exact Fin.ext (by show n.val + 1 * 0 = n.val; omega)

theorem sgs_eq (arg1 : Memref sig .tc .smem S8 .i32) (harg1 : arg1.IsWhole) (x1 : Vec Ideal S8 .i32) :
    sgs arg1 (harg1.unread x1) = sgE x1 := by
  funext t
  fin_cases t
  · exact sgn_eq arg1 harg1 x1 0 _ _ rfl _
  · exact sgn_eq arg1 harg1 x1 0 _ _ rfl _
  · exact sgn_eq arg1 harg1 x1 1 _ _ rfl _
  · exact sgn_eq arg1 harg1 x1 1 _ _ rfl _
  · exact sgn_eq arg1 harg1 x1 2 _ _ rfl _
  · exact sgn_eq arg1 harg1 x1 2 _ _ rfl _
  · exact sgn_eq arg1 harg1 x1 3 _ _ rfl _
  · exact sgn_eq arg1 harg1 x1 3 _ _ rfl _
  · exact sgn_eq arg1 harg1 x1 4 _ _ rfl _
  · exact sgn_eq arg1 harg1 x1 4 _ _ rfl _
  · exact sgn_eq arg1 harg1 x1 5 _ _ rfl _
  · exact sgn_eq arg1 harg1 x1 5 _ _ rfl _
  · exact sgn_eq arg1 harg1 x1 6 _ _ rfl _
  · exact sgn_eq arg1 harg1 x1 6 _ _ rfl _
  · exact sgn_eq arg1 harg1 x1 7 _ _ rfl _
  · exact sgn_eq arg1 harg1 x1 7 _ _ rfl _

/-- Two arrays as a family. -/
def pk {α : Type} (a b : α) : Fin 2 → α := fun c => if c = 0 then a else b

/-- What the three scratch buffers hold after `n` units. -/
def RV (arg11 : Memref sig .tc .vmem S2x256x1792 .bf16) (arg12 : Memref sig .tc .vmem S2x224x128 .i32) (arg13 : Memref sig .tc .vmem S2x128x128 .f32)
    (D : Fin 2 → S1792x128.Idx → EReal) (B : Fin 2 → S1792x128.Idx → BitVec 8) (sg : Fin 16 → EReal) (s s6 : EReal) (sl : ℕ)
    (prev : S2x256x1792.Idx → EReal) (n : ℕ) (f11 : BufTy.Contents (Elt Ideal) arg11.view.ty) (f12 : BufTy.Contents (Elt Ideal) arg12.view.ty)
    (f13 : BufTy.Contents (Elt Ideal) arg13.view.ty) : Prop :=
  I11 D B sg s s6 n sl prev (arg11.view.read (Elt Ideal) f11) ∧ I12 D B sg s s6 n (arg12.view.read (Elt Ideal) f12) ∧
    I13 D sg s6 n (arg13.view.read (Elt Ideal) f13)

theorem RV_zero (arg11 : Memref sig .tc .vmem S2x256x1792 .bf16) (arg12 : Memref sig .tc .vmem S2x224x128 .i32) (arg13 : Memref sig .tc .vmem S2x128x128 .f32)
    (D B sg s s6 sl f11 f12 f13) : RV arg11 arg12 arg13 D B sg s s6 sl (arg11.view.read (Elt Ideal) f11) 0 f11 f12 f13 :=
  ⟨fun _ _ _ => ⟨fun _ h => absurd h (by omega), fun _ => rfl⟩, fun _ _ _ _ h => absurd h (by omega), fun _ _ _ h => absurd h (by omega)⟩

/-- One more unit, from what is stored where. -/
theorem keep (arg11 : Memref sig .tc .vmem S2x256x1792 .bf16) (arg12 : Memref sig .tc .vmem S2x224x128 .i32) (arg13 : Memref sig .tc .vmem S2x128x128 .f32)
    (D : Fin 2 → S1792x128.Idx → EReal) (B : Fin 2 → S1792x128.Idx → BitVec 8) (sg : Fin 16 → EReal) (s s6 : EReal) (sl : ℕ)
    (prev : S2x256x1792.Idx → EReal) (n : ℕ) (hn : n < 14) (f11 : BufTy.Contents (Elt Ideal) arg11.view.ty) (f12 : BufTy.Contents (Elt Ideal) arg12.view.ty)
    (f13 : BufTy.Contents (Elt Ideal) arg13.view.ty) (h : RV arg11 arg12 arg13 D B sg s s6 sl prev n f11 f12 f13)
    {V1 V0 : Vec Ideal S128x128 .bf16} {W1 W0 : Vec Ideal S128x128 .i8} (L1 : Loaded D B 1 n V1 W1) (L0 : Loaded D B 0 n V0 W0)
    {p1 p0 q11 q10 q01 q00 r1 r0 : Fin 3 → ℕ} {ip1 ip0 iq11 iq10 iq01 iq00 ir1 ir0}
    (hp1 : p1 = ![sl, 128, 128 * n]) (hp0 : p0 = ![sl, 0, 128 * n])
    (hq11 : q11 = ![1, 16 * n + 1, 0]) (hq10 : q10 = ![1, 16 * n + 0, 0])
    (hq01 : q01 = ![0, 16 * n + 1, 0]) (hq00 : q00 = ![0, 16 * n + 0, 0])
    (hr1 : r1 = ![1, 8 * n, 0]) (hr0 : r0 = ![0, 8 * n, 0])
    (M11 : List (View.Piece (Elt Ideal) S2x256x1792 .bf16)) (M12 : List (View.Piece (Elt Ideal) S2x224x128 .i32)) (M13 : List (View.Piece (Elt Ideal) S2x128x128 .f32))
    (e11 : M11 = [⟨Rect.unit (s := S2x256x1792) p1 S1x128x128.size ip1, Unit.vals V1 W1 sg s s6⟩,
       ⟨Rect.unit (s := S2x256x1792) p0 S1x128x128.size ip0, Unit.vals V0 W0 sg s s6⟩])
    (e12 : M12 = [⟨⟨(⟨q11, S1x8x128.size, ![1, 2, 1], iq11⟩ : LoadRect S2x224x128), spos_1_2_1⟩, shapeCast S1x8x128 (Unit.codes V1 W1 sg s s6 1) shapeCasts_S8x128_S1x8x128⟩,
       ⟨⟨(⟨q10, S1x8x128.size, ![1, 2, 1], iq10⟩ : LoadRect S2x224x128), spos_1_2_1⟩, shapeCast S1x8x128 (Unit.codes V1 W1 sg s s6 0) shapeCasts_S8x128_S1x8x128⟩,
       ⟨⟨(⟨q01, S1x8x128.size, ![1, 2, 1], iq01⟩ : LoadRect S2x224x128), spos_1_2_1⟩, shapeCast S1x8x128 (Unit.codes V0 W0 sg s s6 1) shapeCasts_S8x128_S1x8x128⟩,
       ⟨⟨(⟨q00, S1x8x128.size, ![1, 2, 1], iq00⟩ : LoadRect S2x224x128), spos_1_2_1⟩, shapeCast S1x8x128 (Unit.codes V0 W0 sg s s6 0) shapeCasts_S8x128_S1x8x128⟩])
    (e13 : M13 = [⟨Rect.unit (s := S2x128x128) r1 S1x8x128.size ir1, shapeCast S1x8x128 (Unit.r V1 sg s6) shapeCasts_S8x128_S1x8x128⟩,
       ⟨Rect.unit (s := S2x128x128) r0 S1x8x128.size ir0, shapeCast S1x8x128 (Unit.r V0 sg s6) shapeCasts_S8x128_S1x8x128⟩]) :
    RV arg11 arg12 arg13 D B sg s s6 sl prev (n + 1) (arg11.view.writes (Elt Ideal) f11 M11) (arg12.view.writes (Elt Ideal) f12 M12)
      (arg13.view.writes (Elt Ideal) f13 M13) := by
  subst e11 e12 e13
  obtain ⟨h11, h12, h13⟩ := h
  exact ⟨I11_step sg s s6 arg11.view f11 n sl hn prev p1 p0 ip1 ip0 hp1 hp0 L1 L0 h11,
    I12_step sg s s6 arg12.view f12 n hn q11 q10 q01 q00 iq11 iq10 iq01 iq00 hq11 hq10 hq01 hq00 L1 L0 h12,
    I13_step sg s6 arg13.view f13 n hn r1 r0 ir1 ir0 hr1 hr0 L1 L0 h13⟩

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)

/-- One trip of the first step's loop. -/
theorem keepA (hc1 : k0_cond1 i = 1#1) (k : Fin k0_t1_loop.trips)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (D : Fin 2 → S1792x128.Idx → EReal) (B : Fin 2 → S1792x128.Idx → BitVec 8)
    (hX3 : ∀ y, arg3.view.read (Elt Ideal) X3 y = D 0 y) (hX4 : ∀ y, arg4.view.read (Elt Ideal) X4 y = D 1 y)
    (hX5 : ∀ y, arg5.view.read (Elt Ideal) X5 y = B 0 y) (hX6 : ∀ y, arg6.view.read (Elt Ideal) X6 y = B 1 y)
    (prev : S2x256x1792.Idx → EReal) (f11 : BufTy.Contents (Elt Ideal) arg11.view.ty) (f12 : BufTy.Contents (Elt Ideal) arg12.view.ty) (f13 : BufTy.Contents (Elt Ideal) arg13.view.ty)
    (h : RV arg11 arg12 arg13 D B (sgs arg1 X1) (scl arg2 X2 ![0] inb_S3_S1_0) (scl arg2 X2 ![1] inb_S3_S1_1) ((i 0).val % 2) prev (k.val) f11 f12 f13) :
    RV arg11 arg12 arg13 D B (sgs arg1 X1) (scl arg2 X2 ![0] inb_S3_S1_0) (scl arg2 X2 ![1] inb_S3_S1_1) ((i 0).val % 2) prev (k.val + 1)
      (arg11.view.writes (Elt Ideal) f11 (trip1 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).1) (arg12.view.writes (Elt Ideal) f12 (trip1 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.1) (arg13.view.writes (Elt Ideal) f13 (trip1 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.2.1) := by
  have hn : k.val < 14 := lt_of_lt_of_eq k.isLt trips1
  have L1 := (⟨col_load D arg4.view X4 1 (k.val) hn _ (k0_off1_inb i k hc1) (off1_eq k) hX4, rcol_load B arg6.view X6 1 (k.val) hn _ (k0_off1_inb i k hc1) (off1_eq k) hX6⟩ : Loaded D B 1 (k.val) _ _)
  have L0 := (⟨col_load D arg3.view X3 0 (k.val) hn _ (k0_off1_inb i k hc1) (off1_eq k) hX3, rcol_load B arg5.view X5 0 (k.val) hn _ (k0_off1_inb i k hc1) (off1_eq k) hX5⟩ : Loaded D B 0 (k.val) _ _)
  have c11 : k0_off7 k 1#32 = ![1, 16 * (k.val) + 1, 0] := off7_eq k 1
  have c10 : k0_off7 k 0#32 = ![1, 16 * (k.val) + 0, 0] := off7_eq k 0
  have c01 : k0_off4 k 1#32 = ![0, 16 * (k.val) + 1, 0] := off4_eq k 1
  have c00 : k0_off4 k 0#32 = ![0, 16 * (k.val) + 0, 0] := off4_eq k 0
  exact keep arg11 arg12 arg13 D B (sgs arg1 X1) _ _ _ prev (k.val) hn f11 f12 f13 h L1 L0 (off6_eq i k) (off3_eq i k) c11 c10 c01 c00 (off5_eq k) (off2_eq k) _ _ _
    (trip1_11 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6)
    (trip1_12 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6)
    (trip1_13 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6)

/-- One trip of the later steps' inner loop. -/
theorem keepB (hc2 : k0_cond2 i = 1#1) (j : Fin k0_t2_loop.trips) (v106 : BitVec 32) (k : Fin k0_t3_loop.trips)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (D : Fin 2 → S1792x128.Idx → EReal) (B : Fin 2 → S1792x128.Idx → BitVec 8)
    (hX3 : ∀ y, arg3.view.read (Elt Ideal) X3 y = D 0 y) (hX4 : ∀ y, arg4.view.read (Elt Ideal) X4 y = D 1 y)
    (hX5 : ∀ y, arg5.view.read (Elt Ideal) X5 y = B 0 y) (hX6 : ∀ y, arg6.view.read (Elt Ideal) X6 y = B 1 y)
    (prev : S2x256x1792.Idx → EReal) (f11 : BufTy.Contents (Elt Ideal) arg11.view.ty) (f12 : BufTy.Contents (Elt Ideal) arg12.view.ty) (f13 : BufTy.Contents (Elt Ideal) arg13.view.ty)
    (h : RV arg11 arg12 arg13 D B (sgs arg1 X1) (scl arg2 X2 ![0] inb_S3_S1_0) (scl arg2 X2 ![1] inb_S3_S1_1) ((i 0).val % 2) prev (2 * j.val + k.val) f11 f12 f13) :
    RV arg11 arg12 arg13 D B (sgs arg1 X1) (scl arg2 X2 ![0] inb_S3_S1_0) (scl arg2 X2 ![1] inb_S3_S1_1) ((i 0).val % 2) prev (2 * j.val + k.val + 1)
      (arg11.view.writes (Elt Ideal) f11 (trip3 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6).1) (arg12.view.writes (Elt Ideal) f12 (trip3 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6).2.1) (arg13.view.writes (Elt Ideal) f13 (trip3 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6).2.2.1) := by
  have hn : 2 * j.val + k.val < 14 := by
    have := lt_of_lt_of_eq j.isLt trips2
    have := lt_of_lt_of_eq k.isLt trips3
    omega
  have L1 := (⟨col_load D arg4.view X4 1 (2 * j.val + k.val) hn _ (k0_off11_inb i j k hc2) (off11_eq j k) hX4, rcol_load B arg6.view X6 1 (2 * j.val + k.val) hn _ (k0_off11_inb i j k hc2) (off11_eq j k) hX6⟩ : Loaded D B 1 (2 * j.val + k.val) _ _)
  have L0 := (⟨col_load D arg3.view X3 0 (2 * j.val + k.val) hn _ (k0_off11_inb i j k hc2) (off11_eq j k) hX3, rcol_load B arg5.view X5 0 (2 * j.val + k.val) hn _ (k0_off11_inb i j k hc2) (off11_eq j k) hX5⟩ : Loaded D B 0 (2 * j.val + k.val) _ _)
  have c11 : k0_off17 j k 1#32 = ![1, 16 * (2 * j.val + k.val) + 1, 0] := off17_eq j k 1
  have c10 : k0_off17 j k 0#32 = ![1, 16 * (2 * j.val + k.val) + 0, 0] := off17_eq j k 0
  have c01 : k0_off14 j k 1#32 = ![0, 16 * (2 * j.val + k.val) + 1, 0] := off14_eq j k 1
  have c00 : k0_off14 j k 0#32 = ![0, 16 * (2 * j.val + k.val) + 0, 0] := off14_eq j k 0
  exact keep arg11 arg12 arg13 D B (sgs arg1 X1) _ _ _ prev (2 * j.val + k.val) hn f11 f12 f13 h L1 L0 (off16_eq i j k) (off13_eq i j k) c11 c10 c01 c00 (off15_eq j k) (off12_eq j k) _ _ _
    (trip3_11 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6)
    (trip3_12 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6)
    (trip3_13 (F := Ideal) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j v106 k X3 X4 X5 X6)

end Cert.KernelIdeal.Hand

end
-- ==== Proof.BodyV.lean ====
/- One step of the kernel, with what it leaves in the blocks of its results and in the slot of the dequantised operand. -/
module

public import proofs.«01_k».proof.Proof.FrameW
public import proofs.«01_k».proof.Proof.Keep

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Quant
open Idealize.ShloMosaic.Rounds
open Idealize.ShloMosaic.Pipeline (Dat Cfg Window BodyObligation cellOf)

local notation "𝕄" => MT nD τ sig Unit (Elt Ideal) ℕ (UR sig nD τ) ℕ

/-- The block of codes of one step, from the blocks it is given. -/
def CO (x1 : Vec Ideal S8 .i32) (x2 : Vec Ideal S3 .f32) (x3 x4 : Vec Ideal S1792x128 .bf16) (x5 x6 : Vec Ideal S1792x128 .i8) : Vec Ideal S256x896 .i8 :=
  fun y => cS (pk x3 x4) (pk x5 x6) (sgE x1) (x2 (ix1 0)) (x2 (ix1 1)) (y 0) (y 1).val

/-- The block of scales of one step. -/
def SC (x1 : Vec Ideal S8 .i32) (x2 : Vec Ideal S3 .f32) (x3 x4 : Vec Ideal S1792x128 .bf16) : Vec Ideal S256x112 .fp8e4m3 :=
  fun y => rS (pk x3 x4) (sgE x1) (x2 (ix1 1)) ⟨(y 0).val / 128, by have := (y 0).isLt; change (y 0).val < 256 at this; omega⟩ (y 1).val
    ⟨(y 0).val % 128, by omega⟩

/-- The dequantised operand that one step leaves in its slot. -/
def LO (x1 : Vec Ideal S8 .i32) (x2 : Vec Ideal S3 .f32) (x3 x4 : Vec Ideal S1792x128 .bf16) (x5 x6 : Vec Ideal S1792x128 .i8) (p : Fin 256) (q : Fin 1792) : EReal :=
  lS (pk x3 x4) (pk x5 x6) (sgE x1) (x2 (ix1 0)) (x2 (ix1 1)) p q.val

/-- The block of products, from the dequantised operand, the other operand and a factor. -/
def DW (pv : Fin 256 → Fin 1792 → EReal) (x7 : Vec Ideal S1792x3584 .bf16) (a : EReal) : Vec Ideal S256x3584 .f32 :=
  fun y => (∑ q : Fin 1792, pv (y 0) q * x7 (ix2 q (y 1))) * a

theorem ix2_eta {a b : ℕ} (y : (⟨2, ![a, b]⟩ : Shape).Idx) : y = ix2 (y 0) (y 1) := by
  funext d
  match d with
  | ⟨0, _⟩ => rfl
  | ⟨1, _⟩ => rfl

/-- The three scalars are places of the second block. -/
theorem RV_blocks {arg11 : Memref sig .tc .vmem S2x256x1792 .bf16} {arg12 : Memref sig .tc .vmem S2x224x128 .i32} {arg13 : Memref sig .tc .vmem S2x128x128 .f32}
    {arg1 : Memref sig .tc .smem S8 .i32} (harg1 : arg1.IsWhole) {arg2 : Memref sig .tc .smem S3 .f32} (harg2 : arg2.IsWhole)
    (x1 : Vec Ideal S8 .i32) (x2 : Vec Ideal S3 .f32) {D B sl prev n f11 f12 f13}
    (h : RV arg11 arg12 arg13 D B (sgs arg1 (harg1.unread x1)) (scl arg2 (harg2.unread x2) ![0] inb_S3_S1_0) (scl arg2 (harg2.unread x2) ![1] inb_S3_S1_1) sl prev n f11 f12 f13) :
    RV arg11 arg12 arg13 D B (sgE x1) (x2 (ix1 0)) (x2 (ix1 1)) sl prev n f11 f12 f13 := by
  rw [sgs_eq, scl_eq arg2 harg2 x2 0 ![0] _ rfl, scl_eq arg2 harg2 x2 1 ![1] _ rfl] at h
  exact h

/-- The first step. -/
theorem bodyAV {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : k0_cond1 i = 1#1) (h2 : ¬ k0_cond2 i = 1#1)
    (x1 : Vec Ideal S8 .i32) (x2 : Vec Ideal S3 .f32) (x3 : Vec Ideal S1792x128 .bf16) (x4 : Vec Ideal S1792x128 .bf16) (x5 : Vec Ideal S1792x128 .i8) (x6 : Vec Ideal S1792x128 .i8) (x7 : Vec Ideal S1792x3584 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare (CO x1 x2 x3 x4 x5 x6) ∗ owns (c : Thread nD τ) arg10 fullShare (SC x1 x2 x3 x4) ∗ (∃ d, ⌜∀ (p : Fin 256) (q : Fin 1792), d (ix3 ⟨(i 0).val % 2, by omega⟩ p q) = LO x1 x2 x3 x4 x5 x6 p q⌝ ∗ owns (c : Thread nD τ) arg11 fullShare d) ∗ (∃ d, owns (c : Thread nD τ) arg12 fullShare d) ∗ (∃ d, owns (c : Thread nD τ) arg13 fullShare d)) -∗ K ⟨⟩))
      ⊢ wp Idealize.ShloMosaic.frame (wpE (defs₀ (F := Ideal)) Variants.none (c : Thread nD τ) none) Set.univ (cc0_quantise_dy_dw (F := Ideal) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, %hf11, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := Ideal)) Variants.none (c : Thread nD τ) none) Set.univ)
  isplitl [H1 H2 H3 H4 H5 H6 H7 H8 H9 H10 H11 H12 H13]
  · iapply (runA (F := Ideal) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun n g11 g12 g13 => RV arg11 arg12 arg13 (pk x3 x4) (pk x5 x6) (sgs arg1 (harg1.unread x1)) (scl arg2 (harg2.unread x2) ![0] inb_S3_S1_0) (scl arg2 (harg2.unread x2) ![1] inb_S3_S1_1) ((i 0).val % 2) (arg11.view.read (Elt Ideal) f11) n g11 g12 g13)
      (fun k g11 g12 g13 h => keepA c i arg1 harg1 arg2 harg2 arg3 harg3 arg4 harg4 arg5 harg5 arg6 harg6 arg7 harg7 arg8 harg8 arg9 harg9 arg10 harg10 arg11 harg11 arg12 harg12 arg13 harg13 h1 k (harg1.unread x1) (harg2.unread x2) (harg3.unread x3) (harg4.unread x4) (harg5.unread x5) (harg6.unread x6) (pk x3 x4) (pk x5 x6) (fun y => congrFun (harg3.read_unread x3) y) (fun y => congrFun (harg4.read_unread x4) y) (fun y => congrFun (harg5.read_unread x5) y) (fun y => congrFun (harg6.read_unread x6) y) _ g11 g12 g13 h)
      (fun _ => RV_zero arg11 arg12 arg13 _ _ _ _ _ _ f11 f12 _))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %hend⟩
  have hRV := RV_blocks harg1 harg2 x1 x2 hend
  obtain ⟨h11, h12, h13⟩ := hRV
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _; isplitr; swap; · iexact H9
    ipureintro; funext y; rw [ix2_eta y]; exact P9_at _ _ _ _ _ arg12 g12 arg9 g9 h12 (y 0) (y 1)
  isplitl [H10]
  · iexists _; isplitr; swap; · iexact H10
    ipureintro; funext y; rw [ix2_eta y]; exact P10_at _ _ _ arg13 g13 arg10 g10 h13 (y 0) (y 1)
  isplitl [H11]
  · iexists (arg11.view.read (Elt Ideal) g11); isplitr
    · ipureintro; intro p q; exact (h11 _ p q).1 rfl (by have := q.isLt; omega)
    · iexists _; isplitr; swap; · iexact H11
      ipureintro; rfl
  isplitl [H12]
  · iexists _, _; isplitr; swap; · iexact H12
    ipureintro; rfl
  iexists _, _; isplitr; swap; · iexact H13
  ipureintro; rfl

/-- A later step: the products of the slot before, and the units of this one. -/
theorem bodyBV {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : ¬ k0_cond1 i = 1#1) (h2 : k0_cond2 i = 1#1)
    (x1 : Vec Ideal S8 .i32) (x2 : Vec Ideal S3 .f32) (x3 : Vec Ideal S1792x128 .bf16) (x4 : Vec Ideal S1792x128 .bf16) (x5 : Vec Ideal S1792x128 .i8) (x6 : Vec Ideal S1792x128 .i8) (x7 : Vec Ideal S1792x3584 .bf16) (pv : Fin 256 → Fin 1792 → EReal) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, ⌜∀ (p : Fin 256) (q : Fin 1792), d (ix3 ⟨1 - (i 0).val % 2, by omega⟩ p q) = pv p q⌝ ∗ owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (DW pv x7 (x2 (ix1 2))) ∗ owns (c : Thread nD τ) arg9 fullShare (CO x1 x2 x3 x4 x5 x6) ∗ owns (c : Thread nD τ) arg10 fullShare (SC x1 x2 x3 x4) ∗ (∃ d, ⌜∀ (p : Fin 256) (q : Fin 1792), d (ix3 ⟨(i 0).val % 2, by omega⟩ p q) = LO x1 x2 x3 x4 x5 x6 p q⌝ ∗ owns (c : Thread nD τ) arg11 fullShare d) ∗ (∃ d, owns (c : Thread nD τ) arg12 fullShare d) ∗ (∃ d, owns (c : Thread nD τ) arg13 fullShare d)) -∗ K ⟨⟩))
      ⊢ wp Idealize.ShloMosaic.frame (wpE (defs₀ (F := Ideal)) Variants.none (c : Thread nD τ) none) Set.univ (cc0_quantise_dy_dw (F := Ideal) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %hd11, %f11, %hf11, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := Ideal)) Variants.none (c : Thread nD τ) none) Set.univ)
  isplitl [H1 H2 H3 H4 H5 H6 H7 H8 H9 H10 H11 H12 H13]
  · have hR8 : ∀ (j : Fin k0_t2_loop.trips) (g8 : BufTy.Contents (Elt Ideal) arg8.view.ty) (g11 : BufTy.Contents (Elt Ideal) arg11.view.ty) (g12 : BufTy.Contents (Elt Ideal) arg12.view.ty) (g13 : BufTy.Contents (Elt Ideal) arg13.view.ty),
        I8 j.val pv x7 (scl arg2 (harg2.unread x2) ![2] inb_S3_S1_2) (arg8.view.read (Elt Ideal) g8) →
        RV arg11 arg12 arg13 (pk x3 x4) (pk x5 x6) (sgs arg1 (harg1.unread x1)) (scl arg2 (harg2.unread x2) ![0] inb_S3_S1_0) (scl arg2 (harg2.unread x2) ![1] inb_S3_S1_1) ((i 0).val % 2) (arg11.view.read (Elt Ideal) f11) (2 * j.val) g11 g12 g13 →
        I8 (j.val + 1) pv x7 (scl arg2 (harg2.unread x2) ![2] inb_S3_S1_2) (arg8.view.read (Elt Ideal) (arg8.view.writes (Elt Ideal) g8
        [⟨(Rect.unit (s := S256x3584) (k0_off10 j) S256x512.size (k0_off10_inb i j h2)),
          k0_pay1 (scl arg2 (harg2.unread x2) ![2] inb_S3_S1_2) (View.readAt (Elt Ideal) arg11.view (Rect.unit (s := S2x256x1792) (k0_off8 i) S1x256x1792.size (k0_off8_inb i h2)).toLoadRect g11)
            (View.readAt (Elt Ideal) arg7.view (Rect.unit (s := S1792x3584) (k0_off9 j) S1792x512.size (k0_off9_inb i j h2)).toLoadRect (harg7.unread x7))⟩])) := by
      intro j g8 g11 g12 g13 h8 hRV
      have hj : j.val < 7 := lt_of_lt_of_eq j.isLt trips2
      refine I8_step arg8 g8 j.val hj pv x7 _ _ _ (off10_eq j) _ _ ?_ ?_ h8
      · intro p q
        have e := (hRV.1 ⟨1 - (i 0).val % 2, by omega⟩ p q).2 (by show ¬ 1 - (i 0).val % 2 = _; omega)
        rw [View.readAt_apply]
        refine Eq.trans (congrArg (arg11.view.read (Elt Ideal) g11) ?_) (e.trans ?_)
        · have ho := off8_eq i
          funext a
          apply Fin.ext
          fin_cases a
          · show k0_off8 i 0 + 1 * 0 = 1 - (i 0).val % 2; rw [ho]; rfl
          · show k0_off8 i 1 + 1 * p.val = p.val; rw [ho]; show 0 + 1 * p.val = p.val; omega
          · show k0_off8 i 2 + 1 * q.val = q.val; rw [ho]; show 0 + 1 * q.val = q.val; omega
        · rw [hf11]; exact hd11 p q
      · intro q n
        rw [View.readAt_apply, harg7.read_unread]
        refine congrArg x7 ?_
        have ho := off9_eq j
        funext a
        apply Fin.ext
        fin_cases a
        · show k0_off9 j 0 + 1 * q.val = q.val; rw [ho]; show 0 + 1 * q.val = q.val; omega
        · show k0_off9 j 1 + 1 * n.val = 512 * j.val + n.val; rw [ho]; show 512 * j.val + 1 * n.val = _; omega
    iapply (runB (F := Ideal) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun n g11 g12 g13 => RV arg11 arg12 arg13 (pk x3 x4) (pk x5 x6) (sgs arg1 (harg1.unread x1)) (scl arg2 (harg2.unread x2) ![0] inb_S3_S1_0) (scl arg2 (harg2.unread x2) ![1] inb_S3_S1_1) ((i 0).val % 2) (arg11.view.read (Elt Ideal) f11) n g11 g12 g13) (fun j g8 => I8 j pv x7 (scl arg2 (harg2.unread x2) ![2] inb_S3_S1_2) (arg8.view.read (Elt Ideal) g8))
      (fun j k g11 g12 g13 h => keepB c i arg1 harg1 arg2 harg2 arg3 harg3 arg4 harg4 arg5 harg5 arg6 harg6 arg7 harg7 arg8 harg8 arg9 harg9 arg10 harg10 arg11 harg11 arg12 harg12 arg13 harg13 h2 j _ k (harg1.unread x1) (harg2.unread x2) (harg3.unread x3) (harg4.unread x4) (harg5.unread x5) (harg6.unread x6) (pk x3 x4) (pk x5 x6) (fun y => congrFun (harg3.read_unread x3) y) (fun y => congrFun (harg4.read_unread x4) y) (fun y => congrFun (harg5.read_unread x5) y) (fun y => congrFun (harg6.read_unread x6) y) _ g11 g12 g13 h)
      hR8 ⟨fun p n hn => absurd hn (by omega), RV_zero arg11 arg12 arg13 _ _ _ _ _ _ f11 f12 f13⟩)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %hend⟩
  obtain ⟨hend8, hend⟩ := hend
  rw [scl_eq arg2 harg2 x2 2 ![2] _ rfl] at hend8
  have hRV := RV_blocks harg1 harg2 x1 x2 hend
  obtain ⟨h11, h12, h13⟩ := hRV
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; funext y; rw [ix2_eta y]; exact hend8 (y 0) (y 1) (by have := (y 1).isLt; change (y 1).val < 3584 at this; omega)
  isplitl [H9]
  · iexists _; isplitr; swap; · iexact H9
    ipureintro; funext y; rw [ix2_eta y]; exact P9_at _ _ _ _ _ arg12 g12 arg9 g9 h12 (y 0) (y 1)
  isplitl [H10]
  · iexists _; isplitr; swap; · iexact H10
    ipureintro; funext y; rw [ix2_eta y]; exact P10_at _ _ _ arg13 g13 arg10 g10 h13 (y 0) (y 1)
  isplitl [H11]
  · iexists (arg11.view.read (Elt Ideal) g11); isplitr
    · ipureintro; intro p q; exact (h11 _ p q).1 rfl (by have := q.isLt; omega)
    · iexists _; isplitr; swap; · iexact H11
      ipureintro; rfl
  isplitl [H12]
  · iexists _, _; isplitr; swap; · iexact H12
    ipureintro; rfl
  iexists _, _; isplitr; swap; · iexact H13
  ipureintro; rfl

end Cert.KernelIdeal.Hand

end
-- ==== Proof.RunV.lean ====
/- The kernel's run with its results named: every step leaves its blocks of codes and scales and the products of the
   dequantised operand that the step before left in the scratch buffer. -/
module

public import proofs.«01_k».proof.Proof.BodyV

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Quant
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The dequantised operand of step `t`. -/
def LT (c : Dev nD) (t : Fin cfg0.N) : Fin 256 → Fin 1792 → EReal :=
  LO (iblk m c 0 t) (iblk m c 1 t) (iblk m c 2 t) (iblk m c 3 t) (iblk m c 4 t) (iblk m c 5 t)

/-- The step before. -/
def pt (t : Fin cfg0.N) : Fin cfg0.N := ⟨t.val - 1, lt_of_le_of_lt (Nat.sub_le _ _) t.isLt⟩

/-- What step `t` leaves in the block of products, of scales and of codes. -/
def o7 (c : Dev nD) (t : Fin cfg0.N) : Vec Ideal S256x3584 .f32 := DW (LT m c (pt t)) (iblk m c 6 t) ((iblk m c 1 t : Vec Ideal S3 .f32) (ix1 2))
@[inherit_doc o7] def o8 (c : Dev nD) (t : Fin cfg0.N) : Vec Ideal S256x896 .i8 :=
  CO (iblk m c 0 t) (iblk m c 1 t) (iblk m c 2 t) (iblk m c 3 t) (iblk m c 4 t) (iblk m c 5 t)
@[inherit_doc o7] def o9 (c : Dev nD) (t : Fin cfg0.N) : Vec Ideal S256x112 .fp8e4m3 :=
  SC (iblk m c 0 t) (iblk m c 1 t) (iblk m c 2 t) (iblk m c 3 t)

/-- Before step `n` the slot of step `n - 1` holds what that step dequantised. -/
def Slot (c : Dev nD) (n : ℕ) (d : S2x256x1792.Idx → EReal) : Prop :=
  ∀ t : Fin cfg0.N, t.val + 1 = n → ∀ (p : Fin 256) (q : Fin 1792), d (ix3 ⟨t.val % 2, by omega⟩ p q) = LT m c t p q

/-- The scratch buffers before step `n`. -/
def PhiV (c : Dev nD) (n : ℕ) : sProp 𝕄 :=
  iprop(((∃ d, ⌜Slot m c n d⌝ ∗ owns (c : Thread nD τ) scM0_0 fullShare d) ∗ (∃ d, owns (c : Thread nD τ) scM0_1 fullShare d) ∗ (∃ d, owns (c : Thread nD τ) scM0_2 fullShare d)) ∗ (∃ r, prngReg c r))

/-- The proof data of the one pipeline on core `c`. -/
def datv (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7 m c t
    | ⟨8, _⟩ => o8 m c t
    | ⟨9, _⟩ => o9 m c t
  Φ t := PhiV m c t.val
  q w := Pipeline.shareOf spec0 w
  owed _ := 0

theorem Av_eq (c : Dev nD) (w : Fin cfg0.W) : (datv m 0 c).A w = V m c (Pipeline.arrRef spec0 w) := by
  dsimp only [datv]

theorem afterv_0 (c : Dev nD) (t : Fin cfg0.N) : (datv m 0 c).after 0 t = iblk m c 0 t := by dsimp only [datv]
theorem afterv_1 (c : Dev nD) (t : Fin cfg0.N) : (datv m 0 c).after 1 t = iblk m c 1 t := by dsimp only [datv]
theorem afterv_2 (c : Dev nD) (t : Fin cfg0.N) : (datv m 0 c).after 2 t = iblk m c 2 t := by dsimp only [datv]
theorem afterv_3 (c : Dev nD) (t : Fin cfg0.N) : (datv m 0 c).after 3 t = iblk m c 3 t := by dsimp only [datv]
theorem afterv_4 (c : Dev nD) (t : Fin cfg0.N) : (datv m 0 c).after 4 t = iblk m c 4 t := by dsimp only [datv]
theorem afterv_5 (c : Dev nD) (t : Fin cfg0.N) : (datv m 0 c).after 5 t = iblk m c 5 t := by dsimp only [datv]
theorem afterv_6 (c : Dev nD) (t : Fin cfg0.N) : (datv m 0 c).after 6 t = iblk m c 6 t := by dsimp only [datv]
theorem afterv_7 (c : Dev nD) (t : Fin cfg0.N) : (datv m 0 c).after 7 t = o7 m c t := by dsimp only [datv]
theorem afterv_8 (c : Dev nD) (t : Fin cfg0.N) : (datv m 0 c).after 8 t = o8 m c t := by dsimp only [datv]
theorem afterv_9 (c : Dev nD) (t : Fin cfg0.N) : (datv m 0 c).after 9 t = o9 m c t := by dsimp only [datv]
theorem beforev_0 (c : Dev nD) (t : Fin cfg0.N) (d) : (datv m 0 c).before 0 t d = iblk m c 0 t :=
  before0_0_of m (datv m 0 c) (Av_eq m c 0) (afterv_0 m c) t d
theorem beforev_1 (c : Dev nD) (t : Fin cfg0.N) (d) : (datv m 0 c).before 1 t d = iblk m c 1 t :=
  before0_1_of m (datv m 0 c) (Av_eq m c 1) (afterv_1 m c) t d
theorem beforev_2 (c : Dev nD) (t : Fin cfg0.N) (d) : (datv m 0 c).before 2 t d = iblk m c 2 t :=
  before0_2_of m (datv m 0 c) (Av_eq m c 2) (afterv_2 m c) t d
theorem beforev_3 (c : Dev nD) (t : Fin cfg0.N) (d) : (datv m 0 c).before 3 t d = iblk m c 3 t :=
  before0_3_of m (datv m 0 c) (Av_eq m c 3) (afterv_3 m c) t d
theorem beforev_4 (c : Dev nD) (t : Fin cfg0.N) (d) : (datv m 0 c).before 4 t d = iblk m c 4 t :=
  before0_4_of m (datv m 0 c) (Av_eq m c 4) (afterv_4 m c) t d
theorem beforev_5 (c : Dev nD) (t : Fin cfg0.N) (d) : (datv m 0 c).before 5 t d = iblk m c 5 t :=
  before0_5_of m (datv m 0 c) (Av_eq m c 5) (afterv_5 m c) t d
theorem beforev_6 (c : Dev nD) (t : Fin cfg0.N) (d) : (datv m 0 c).before 6 t d = iblk m c 6 t :=
  before0_6_of m (datv m 0 c) (Av_eq m c 6) (afterv_6 m c) t d

theorem idle7 : ∀ t : Fin cfg0.N, cfg0.idle 7 (grid0.coords t) = decide (t.val = 0) :=
  (by decide +kernel : ∀ t : Fin grid0.N, idle0 7 (grid0.coords t) = decide (t.val = 0))
theorem idle8 : ∀ t : Fin cfg0.N, cfg0.idle 8 (grid0.coords t) = false :=
  (by decide +kernel : ∀ t : Fin grid0.N, idle0 8 (grid0.coords t) = false)
theorem idle9 : ∀ t : Fin cfg0.N, cfg0.idle 9 (grid0.coords t) = false :=
  (by decide +kernel : ∀ t : Fin grid0.N, idle0 9 (grid0.coords t) = false)
theorem flush7 : ∀ t : Fin cfg0.N, (cfg0.win 7).flush t = decide (1 ≤ t.val) :=
  (by decide +kernel : ∀ t : Fin grid0.N, win0_7.flush t = decide (1 ≤ t.val))
theorem coord_val : ∀ t : Fin cfg0.N, (grid0.coords t 0).val = t.val :=
  (by decide +kernel : ∀ t : Fin grid0.N, (grid0.coords t 0).val = t.val)

/-- What the body is called with at point `t`, and what it returns. -/
def bodyPreV (c : Dev nD) (t : Fin cfg0.N) : sProp 𝕄 :=
  iprop((datv m 0 c).Φ t.castSucc ∗ (datv m 0 c).owesAt () t.castSucc
    ∗ (∃ d, owns (c : Thread nD τ) (ms0_0 t) fullShare ((datv m 0 c).before 0 t d))
    ∗ (∃ d, owns (c : Thread nD τ) (ms0_1 t) fullShare ((datv m 0 c).before 1 t d))
    ∗ (∃ d, owns (c : Thread nD τ) (ms0_2 t) fullShare ((datv m 0 c).before 2 t d))
    ∗ (∃ d, owns (c : Thread nD τ) (ms0_3 t) fullShare ((datv m 0 c).before 3 t d))
    ∗ (∃ d, owns (c : Thread nD τ) (ms0_4 t) fullShare ((datv m 0 c).before 4 t d))
    ∗ (∃ d, owns (c : Thread nD τ) (ms0_5 t) fullShare ((datv m 0 c).before 5 t d))
    ∗ (∃ d, owns (c : Thread nD τ) (ms0_6 t) fullShare ((datv m 0 c).before 6 t d))
    ∗ (∃ d, owns (c : Thread nD τ) (ms0_7 t) fullShare ((datv m 0 c).before 7 t d))
    ∗ (∃ d, owns (c : Thread nD τ) (ms0_8 t) fullShare ((datv m 0 c).before 8 t d))
    ∗ (∃ d, owns (c : Thread nD τ) (ms0_9 t) fullShare ((datv m 0 c).before 9 t d)))
@[inherit_doc bodyPreV] def bodyPostV (c : Dev nD) (t : Fin cfg0.N) : sProp 𝕄 :=
  iprop((datv m 0 c).Φ t.succ ∗ (datv m 0 c).owesAt () t.succ
    ∗ (datv m 0 c).leavesExact 0 t
    ∗ (datv m 0 c).leavesExact 1 t
    ∗ (datv m 0 c).leavesExact 2 t
    ∗ (datv m 0 c).leavesExact 3 t
    ∗ (datv m 0 c).leavesExact 4 t
    ∗ (datv m 0 c).leavesExact 5 t
    ∗ (datv m 0 c).leavesExact 6 t
    ∗ (datv m 0 c).leavesExact 7 t
    ∗ (datv m 0 c).leavesExact 8 t
    ∗ (datv m 0 c).leavesExact 9 t)

/-- Before the first point nothing is fetched into a result's block. -/
theorem hbefore7 (c : Dev nD) (t : Fin cfg0.N) (ht : t.val = 0) (d) : (datv m 0 c).before 7 t d = d := by
  rw [show t = ⟨0, lt_of_lt_of_eq (by decide : 0 < 75) N_0.symm⟩ from Fin.ext ht]
  rfl

/-- The body at any point. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [beforev_0, beforev_1, beforev_2, beforev_3, beforev_4, beforev_5, beforev_6]
  rw [show (datv m 0 c).owesAt () t.succ = (datv m 0 c).owesAt () t.castSucc from rfl]
  rw [show (datv m 0 c).Φ t.succ = PhiV m c (t.val + 1) from rfl, show (datv m 0 c).Φ t.castSucc = PhiV m c t.val from rfl]
  unfold PhiV
  have hN : t.val < 75 := lt_of_lt_of_eq t.isLt (show cfg0.N = 75 from N_0)
  have hi := coord_val t
  rw [show (datv m 0 c).leavesExact 0 t = owns (c : Thread nD τ) (ms0_0 t) fullShare ((datv m 0 c).after 0 t) from by
    unfold Dat.leavesExact; rw [liveAt0_0 t], afterv_0]
  rw [show (datv m 0 c).leavesExact 1 t = owns (c : Thread nD τ) (ms0_1 t) fullShare ((datv m 0 c).after 1 t) from by
    unfold Dat.leavesExact; rw [liveAt0_1 t], afterv_1]
  rw [show (datv m 0 c).leavesExact 2 t = owns (c : Thread nD τ) (ms0_2 t) fullShare ((datv m 0 c).after 2 t) from by
    unfold Dat.leavesExact; rw [liveAt0_2 t], afterv_2]
  rw [show (datv m 0 c).leavesExact 3 t = owns (c : Thread nD τ) (ms0_3 t) fullShare ((datv m 0 c).after 3 t) from by
    unfold Dat.leavesExact; rw [liveAt0_3 t], afterv_3]
  rw [show (datv m 0 c).leavesExact 4 t = owns (c : Thread nD τ) (ms0_4 t) fullShare ((datv m 0 c).after 4 t) from by
    unfold Dat.leavesExact; rw [liveAt0_4 t], afterv_4]
  rw [show (datv m 0 c).leavesExact 5 t = owns (c : Thread nD τ) (ms0_5 t) fullShare ((datv m 0 c).after 5 t) from by
    unfold Dat.leavesExact; rw [liveAt0_5 t], afterv_5]
  rw [show (datv m 0 c).leavesExact 6 t = owns (c : Thread nD τ) (ms0_6 t) fullShare ((datv m 0 c).after 6 t) from by
    unfold Dat.leavesExact; rw [liveAt0_6 t], afterv_6]
  rw [show (datv m 0 c).leavesExact 8 t = owns (c : Thread nD τ) (ms0_8 t) fullShare ((datv m 0 c).after 8 t) from by
    unfold Dat.leavesExact; rw [idle8 t], afterv_8]
  rw [show (datv m 0 c).leavesExact 9 t = owns (c : Thread nD τ) (ms0_9 t) fullShare ((datv m 0 c).after 9 t) from by
    unfold Dat.leavesExact; rw [idle9 t], afterv_9]
  iintro ⟨⟨⟨⟨%e0, %he0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 75 = 0
  · have h1 : ¬ 1 ≤ t.val := by omega
    rw [show (datv m 0 c).leavesExact 7 t = iprop(∃ d, owns (c : Thread nD τ) (ms0_7 t) fullShare ((datv m 0 c).before 7 t d)) from
      (datv m 0 c).leavesExact_idle 7 t ((idle7 t).trans (decide_eq_true (by omega))) ((flush7 t).trans (decide_eq_false h1))]
    have hb7 : ∀ d, (datv m 0 c).before 7 t d = d := fun d => hbefore7 m c t (by omega) d
    simp only [hb7]
    iapply (bodyAV (c := c) (i := grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexists _; iexact HS0
    isplitl [HS1]; · iexact HS1
    isplitl [HS2]; · iexact HS2
    iintro ⟨H0, H1, H2, H3, H4, H5, H6, H7, H8, H9, ⟨%e1, %he1, HS0⟩, HS1, HS2⟩
    isplitl [HS0 HS1 HS2 Hg]
    · isplitl [HS0 HS1 HS2]
      · isplitl [HS0]
        · iexists e1; isplitr
          · ipureintro; intro t' ht' p q
            obtain rfl : t' = t := Fin.ext (by omega)
            refine Eq.trans (congrArg (fun z => e1 (ix3 z p q)) (Fin.ext ?_)) (he1 p q)
            show t'.val % 2 = (grid0.coords t' 0).val % 2
            rw [hi]
          · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h1 : 1 ≤ t.val := by omega
    rw [show (datv m 0 c).leavesExact 7 t = owns (c : Thread nD τ) (ms0_7 t) fullShare ((datv m 0 c).after 7 t) from by
      unfold Dat.leavesExact; rw [(idle7 t).trans (decide_eq_false (by omega))], afterv_7]
    iapply (bodyBV (c := c) (i := grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (LT m c (pt t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]
    · iexists e0; isplitr
      · ipureintro; intro p q
        rw [← he0 (pt t) (by show t.val - 1 + 1 = t.val; omega) p q]
        refine congrArg (fun z => e0 (ix3 z p q)) (Fin.ext ?_)
        show 1 - (grid0.coords t 0).val % 2 = (t.val - 1) % 2
        rw [hi]; omega
      · iexact HS0
    isplitl [HS1]; · iexact HS1
    isplitl [HS2]; · iexact HS2
    iintro ⟨H0, H1, H2, H3, H4, H5, H6, H7, H8, H9, ⟨%e1, %he1, HS0⟩, HS1, HS2⟩
    isplitl [HS0 HS1 HS2 Hg]
    · isplitl [HS0 HS1 HS2]
      · isplitl [HS0]
        · iexists e1; isplitr
          · ipureintro; intro t' ht' p q
            obtain rfl : t' = t := Fin.ext (by omega)
            refine Eq.trans (congrArg (fun z => e1 (ix3 z p q)) (Fin.ext ?_)) (he1 p q)
            show t'.val % 2 = (grid0.coords t' 0).val % 2
            rw [hi]
          · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_obligationV (c : Dev nD) : BodyObligation (datv m 0 c) (defs₀ (F := Ideal)) Variants.none () Set.univ := fun t => by
  rw [bigSep_W0, bigSep_W0, defs₀_row]
  exact triple_restated (sound_bodyV m c t) rfl .rfl fun _ => .rfl

theorem hinV (c : Dev nD) : Pipeline.ΦA spec0 c ⊢ (datv m 0 c).Φ 0 := by
  rw [PhiA0_eq, show (datv m 0 c).Φ 0 = PhiV m c 0 from rfl]
  unfold PhiV
  iintro ⟨⟨⟨%d, HS0⟩, HS1, HS2⟩, Hg⟩
  isplitl [HS0 HS1 HS2]
  · isplitl [HS0]
    · iexists d; isplitr
      · ipureintro; intro t ht; exact absurd ht (by omega)
      · iexact HS0
    isplitl [HS1]; · iexact HS1
    iexact HS2
  iexact Hg

theorem houtV (c : Dev nD) : (datv m 0 c).Φ (Fin.last cfg0.N) ⊢ Pipeline.ΦA spec0 c := by
  rw [PhiA0_eq, show (datv m 0 c).Φ (Fin.last cfg0.N) = PhiV m c cfg0.N from rfl]
  unfold PhiV
  iintro ⟨⟨⟨%d, -, HS0⟩, HS1, HS2⟩, Hg⟩
  isplitl [HS0 HS1 HS2]
  · isplitl [HS0]; · iexists _; iexact HS0
    isplitl [HS1]; · iexact HS1
    iexact HS2
  iexact Hg

set_option backward.isDefEq.respectTransparency.types false in
/-- The run, every array named. -/
theorem run_mainV : θ_run defs (onTc (τ := τ) (main (F := Ideal))) (s₀ m ρ) (Pipeline.FramePost cfgs (datv m) 0 (V m)) :=
  Pipeline.θ_run_frame_track_shared cfgs (datv m) (0 : Fin 1) launch₀0 defs₀ Variants.none m ρ main
    (hbody := fun c => (body_obligationV m c).loose) (hq := fun _ _ _ => rfl)
    (howed := fun _ _ => rfl) (V := V m) (hmain := hmain m Variants.none) (hA := Av_eq m) (hin := hinV m) (hout := houtV m)

/-- The results and the arguments after the run. -/
theorem run_named : θ_run defs (onTc (τ := τ) (main (F := Ideal))) ⟨m, fun _ => 0, ρ⟩ (fun r => ∀ c : Dev nD,
      r.2.mem ((c.tc : Thread nD τ).loc main_v31_0) = (datv m 0 c).arrAt 7 cfg0.N
      ∧ r.2.mem ((c.tc : Thread nD τ).loc main_v31_1) = (datv m 0 c).arrAt 8 cfg0.N
      ∧ r.2.mem ((c.tc : Thread nD τ).loc main_v31_2) = (datv m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 7, (h.1 c).1 8, (h.1 c).1 9, h.2 c⟩)
    (θ_run_and (run_mainV m ρ) (unchanged m ρ))

end Cert.KernelIdeal.Hand

end
-- ==== Proof.Final.lean ====
/- What the kernel leaves in the arrays of its results, at every index, from the arrays that its region finds. -/
module

public import proofs.«01_k».proof.Proof.RunV
public import Idealize.ShloMosaic.Lib.Pipeline.ValueKit

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.Sem
open Cert.KernelIdeal.Gen Cert.Quant
open Idealize.ShloMosaic.Pipeline (Dat Cfg Window)

variable (m : (ℓ : Loc nD τ sig) → Buf (Elt Ideal) ℓ) (c : Dev nD)

/-- The arrays that the region finds: the mask words, the scalars, `dy`, the random bytes and the other operand. -/
def vM : Vec Ideal S8 .i32 := V m c main_v14
@[inherit_doc vM] def vS : Vec Ideal S3 .f32 := V m c main_v25
@[inherit_doc vM] def vY : Vec Ideal S1792x18944 .bf16 := V m c main_v0
@[inherit_doc vM] def vB : Vec Ideal S1792x18944 .i8 := V m c main_v1
@[inherit_doc vM] def vX : Vec Ideal S1792x3584 .bf16 := V m c main_v30

/-- The tokens of group `G` in column `r`. -/
def yG (r : Fin 18944) (G : ℕ) : Fin 16 → EReal := fun t => vY m c (ix2 (Fin.ofNat 1792 (16 * G + t.val)) r)

/-- The scale of group `G` of column `r`. -/
def rG (r : Fin 18944) (G : ℕ) : EReal := rk (yG m c r G) (sgE (vM m c)) (vS m c (ix1 1))

/-- The byte of token `t` of that group. -/
def fG (r : Fin 18944) (G t : ℕ) : BitVec 8 :=
  fk (yG m c r G) (sgE (vM m c)) (vS m c (ix1 0)) (vS m c (ix1 1)) (vB m c (ix2 (Fin.ofNat 1792 (16 * G + t)) r)) t

/-- The windows' block indices. -/
theorem idx : ∀ t : Fin grid0.N, win0_0.index t = ![0] ∧ win0_1.index t = ![0] ∧ win0_2.index t = ![0, 2 * min t.val 73] ∧
    win0_3.index t = ![0, 2 * min t.val 73 + 1] ∧ win0_4.index t = ![0, 2 * min t.val 73] ∧ win0_5.index t = ![0, 2 * min t.val 73 + 1] ∧
    win0_6.index t = ![0, 0] ∧ win0_7.index t = ![t.val - 1, 0] ∧ win0_8.index t = ![min t.val 73, 0] ∧ win0_9.index t = ![min t.val 73, 0] := by
  decide +kernel

/-- Column `l` of a chunk, in the array. -/
def colOf (t : Fin cfg0.N) (p : Fin 256) : Fin 18944 := ⟨256 * min t.val 73 + p.val, by omega⟩

theorem blk0 (t : Fin cfg0.N) : (iblk m c 0 t : Vec Ideal S8 .i32) = vM m c := by
  funext y
  unfold vM
  blk_ext [iblk, V, idx t]

theorem blk1 (t : Fin cfg0.N) : (iblk m c 1 t : Vec Ideal S3 .f32) = vS m c := by
  funext y
  unfold vS
  blk_ext [iblk, V, idx t]

theorem blk6 (t : Fin cfg0.N) : (iblk m c 6 t : Vec Ideal S1792x3584 .bf16) = vX m c := by
  funext y
  unfold vX
  blk_ext [iblk, V, idx t]

theorem blk2 (t : Fin cfg0.N) (q : Fin 1792) (l : Fin 128) : (iblk m c 2 t : Vec Ideal S1792x128 .bf16) (ix2 q l) =
    vY m c (ix2 q ⟨256 * min t.val 73 + l.val, by omega⟩) := by
  unfold vY
  blk_ext [iblk, V, idx t]

theorem blk3 (t : Fin cfg0.N) (q : Fin 1792) (l : Fin 128) : (iblk m c 3 t : Vec Ideal S1792x128 .bf16) (ix2 q l) =
    vY m c (ix2 q ⟨256 * min t.val 73 + 128 + l.val, by omega⟩) := by
  unfold vY
  blk_ext [iblk, V, idx t]

theorem blk4 (t : Fin cfg0.N) (q : Fin 1792) (l : Fin 128) : (iblk m c 4 t : Vec Ideal S1792x128 .i8) (ix2 q l) =
    vB m c (ix2 q ⟨256 * min t.val 73 + l.val, by omega⟩) := by
  unfold vB
  blk_ext [iblk, V, idx t]

theorem blk5 (t : Fin cfg0.N) (q : Fin 1792) (l : Fin 128) : (iblk m c 5 t : Vec Ideal S1792x128 .i8) (ix2 q l) =
    vB m c (ix2 q ⟨256 * min t.val 73 + 128 + l.val, by omega⟩) := by
  unfold vB
  blk_ext [iblk, V, idx t]

theorem pkY (t : Fin cfg0.N) (p : Fin 256) (q : Fin 1792) :
    pk (iblk m c 2 t : Vec Ideal S1792x128 .bf16) (iblk m c 3 t) ⟨p.val / 128, by omega⟩ (ix2 q ⟨p.val % 128, by omega⟩) =
      vY m c (ix2 q (colOf t p)) := by
  unfold pk
  by_cases h : p.val / 128 = 0
  · rw [if_pos (Fin.ext h), blk2]
    congr 2
    exact Fin.ext (by show 256 * min t.val 73 + p.val % 128 = 256 * min t.val 73 + p.val; omega)
  · rw [if_neg (fun h' => h (congrArg Fin.val h')), blk3]
    congr 2
    exact Fin.ext (by show 256 * min t.val 73 + 128 + p.val % 128 = 256 * min t.val 73 + p.val; omega)

theorem pkB (t : Fin cfg0.N) (p : Fin 256) (q : Fin 1792) :
    pk (iblk m c 4 t : Vec Ideal S1792x128 .i8) (iblk m c 5 t) ⟨p.val / 128, by omega⟩ (ix2 q ⟨p.val % 128, by omega⟩) =
      vB m c (ix2 q (colOf t p)) := by
  unfold pk
  by_cases h : p.val / 128 = 0
  · rw [if_pos (Fin.ext h), blk4]
    congr 2
    exact Fin.ext (by show 256 * min t.val 73 + p.val % 128 = 256 * min t.val 73 + p.val; omega)
  · rw [if_neg (fun h' => h (congrArg Fin.val h')), blk5]
    congr 2
    exact Fin.ext (by show 256 * min t.val 73 + 128 + p.val % 128 = 256 * min t.val 73 + p.val; omega)

theorem yc_blk (t : Fin cfg0.N) (p : Fin 256) (G : ℕ) :
    yc (pk (iblk m c 2 t : Vec Ideal S1792x128 .bf16) (iblk m c 3 t)) ⟨p.val / 128, by omega⟩ G ⟨p.val % 128, by omega⟩ =
      yG m c (colOf t p) G := by
  funext k
  exact pkY m c t p _

theorem rS_blk (t : Fin cfg0.N) (p : Fin 256) (G : ℕ) :
    rS (pk (iblk m c 2 t : Vec Ideal S1792x128 .bf16) (iblk m c 3 t)) (sgE (iblk m c 0 t)) ((iblk m c 1 t : Vec Ideal S3 .f32) (ix1 1))
      ⟨p.val / 128, by omega⟩ G ⟨p.val % 128, by omega⟩ = rG m c (colOf t p) G := by
  unfold rS rG
  rw [yc_blk, blk0, blk1]

theorem fS_blk (t : Fin cfg0.N) (p : Fin 256) (G k : ℕ) :
    fS (pk (iblk m c 2 t : Vec Ideal S1792x128 .bf16) (iblk m c 3 t)) (pk (iblk m c 4 t : Vec Ideal S1792x128 .i8) (iblk m c 5 t)) (sgE (iblk m c 0 t))
      ((iblk m c 1 t : Vec Ideal S3 .f32) (ix1 0)) ((iblk m c 1 t : Vec Ideal S3 .f32) (ix1 1))
      ⟨p.val / 128, by omega⟩ G ⟨p.val % 128, by omega⟩ k = fG m c (colOf t p) G k := by
  unfold fS fG
  rw [yc_blk, pkB, blk0, blk1]

theorem LT_eq (t : Fin cfg0.N) (p : Fin 256) (q : Fin 1792) :
    LT m c t p q = Ideal.e4m3fn (fG m c (colOf t p) (gq q.val) (tq q.val)) * rG m c (colOf t p) (gq q.val) := by
  unfold LT LO lS
  rw [fS_blk, rS_blk]

/-- The array of scales. -/
def A9 : Vec Ideal S18944x112 .fp8e4m3 := fun y => rG m c (y 0) (y 1).val

/-- The array of codes. -/
def A8 : Vec Ideal S18944x896 .i8 := fun y =>
  packByte (fG m c (y 0) ((y 1).val / 8) (2 * ((y 1).val % 8))) (fG m c (y 0) ((y 1).val / 8) (2 * ((y 1).val % 8) + 1))

/-- The array of products. -/
def A7 : Vec Ideal S18944x3584 .f32 := fun y =>
  (∑ q : Fin 1792, (Ideal.e4m3fn (fG m c (y 0) (gq q.val) (tq q.val)) * rG m c (y 0) (gq q.val)) * vX m c (ix2 q (y 1))) * vS m c (ix1 2)

theorem emb9 (t : Fin cfg0.N) (y : S256x112.Idx) : (((cfg0.win 9).blk t).view.emb y : S18944x112.Idx) = ix2 (colOf t (y 0)) (y 1) := by
  unfold colOf
  blk_ext [idx t]

theorem emb8 (t : Fin cfg0.N) (y : S256x896.Idx) : (((cfg0.win 8).blk t).view.emb y : S18944x896.Idx) = ix2 (colOf t (y 0)) (y 1) := by
  unfold colOf
  blk_ext [idx t]

theorem emb7 (t : Fin cfg0.N) (h : 1 ≤ t.val) (y : S256x3584.Idx) :
    (((cfg0.win 7).blk t).view.emb y : S18944x3584.Idx) = ix2 (colOf (pt t) (y 0)) (y 1) := by
  have hN : t.val < 75 := lt_of_lt_of_eq t.isLt (show cfg0.N = 75 from N_0)
  have e : colOf (pt t) (y 0) = ⟨256 * (t.val - 1) + (y 0).val, by have := (y 0).isLt; change (y 0).val < 256 at this; omega⟩ :=
    Fin.ext (by show 256 * min (t.val - 1) 73 + (y 0).val = 256 * (t.val - 1) + (y 0).val; omega)
  rw [e]
  blk_ext [idx t]

theorem o9_at (t : Fin cfg0.N) (y : S256x112.Idx) : o9 m c t y = A9 m c (ix2 (colOf t (y 0)) (y 1)) :=
  rS_blk m c t (y 0) _

theorem o8_at (t : Fin cfg0.N) (y : S256x896.Idx) : o8 m c t y = A8 m c (ix2 (colOf t (y 0)) (y 1)) :=
  congr (congrArg packByte (fS_blk m c t (y 0) _ _)) (fS_blk m c t (y 0) _ _)

theorem o7_at (t : Fin cfg0.N) (y : S256x3584.Idx) : o7 m c t y = A7 m c (ix2 (colOf (pt t) (y 0)) (y 1)) := by
  unfold o7 DW A7
  rw [blk6, blk1]
  refine congrArg (· * _) (Finset.sum_congr rfl fun q _ => ?_)
  exact congrArg (· * _) (LT_eq m c (pt t) (y 0) q)

theorem arr9 : (datv m 0 c).arrAt 9 cfg0.N = A9 m c := by
  refine (datv m 0 c).arrAt_eq_of_covers 9 _ (by decide +kernel) fun t hf y => ?_
  blk_simp
  rw [afterv_9]
  exact (o9_at m c t y).trans (congrArg (A9 m c) (emb9 t y).symm)

theorem arr8 : (datv m 0 c).arrAt 8 cfg0.N = A8 m c := by
  refine (datv m 0 c).arrAt_eq_of_covers 8 _ (by decide +kernel) fun t hf y => ?_
  blk_simp
  rw [afterv_8]
  exact (o8_at m c t y).trans (congrArg (A8 m c) (emb8 t y).symm)

theorem arr7 : (datv m 0 c).arrAt 7 cfg0.N = A7 m c := by
  refine (datv m 0 c).arrAt_eq_of_covers 7 _ (by decide +kernel) fun t hf y => ?_
  blk_simp
  rw [afterv_7]
  have h1 : 1 ≤ t.val := by rw [flush7] at hf; exact of_decide_eq_true hf
  exact (o7_at m c t y).trans (congrArg (A7 m c) (emb7 t h1 y).symm)

end Cert.KernelIdeal.Hand

end
-- ==== Proof.Code.lean ====
/- The code of a magnitude: the interval it lies in, its place within it, and the random byte. The kernel's word
   arithmetic computes that code. -/
module

public import proofs.«01_k».proof.Proof.Spec
public import Mathlib.Tactic.Linarith
public import Mathlib.Tactic.IntervalCases
public import Mathlib.Tactic.FieldSimp

@[expose] public section

noncomputable section

namespace Cert.Quant

open Idealize.ShloMosaic

/-- The interval between two neighbouring magnitudes 0, 1/2, 1, 3/2, 2, 3, 4, 6 in which `w` lies. -/
def kl (w : ℝ) : ℕ :=
  if 6 ≤ w then 7 else if 4 ≤ w then 6 else if 3 ≤ w then 5 else if 2 ≤ w then 4 else
    if 3 / 2 ≤ w then 3 else if 1 ≤ w then 2 else if 1 / 2 ≤ w then 1 else 0

/-- How far along its interval `w` lies. -/
def fr (w : ℝ) : ℝ :=
  if 6 ≤ w then 0 else if 4 ≤ w then (w - 4) / 2 else if 3 ≤ w then w - 3 else if 2 ≤ w then w - 2 else
    if 3 / 2 ≤ w then 2 * w - 3 else if 1 ≤ w then 2 * w - 2 else if 1 / 2 ≤ w then 2 * w - 1 else 2 * w

/-- The code of magnitude `w`, rounded up where the random byte is below its place. -/
def kc (w : ℝ) (rb : BitVec 8) : ℕ := kl w + if ((rb.toNat : ℝ) + 1 / 2) / 256 < fr w then 1 else 0

/-- The eight cases of a magnitude. -/
theorem kl_cases (w : ℝ) (hw : 0 ≤ w) :
    (6 ≤ w ∧ kl w = 7 ∧ fr w = 0) ∨ (4 ≤ w ∧ w < 6 ∧ kl w = 6 ∧ fr w = (w - 4) / 2) ∨
    (3 ≤ w ∧ w < 4 ∧ kl w = 5 ∧ fr w = w - 3) ∨ (2 ≤ w ∧ w < 3 ∧ kl w = 4 ∧ fr w = w - 2) ∨
    (3 / 2 ≤ w ∧ w < 2 ∧ kl w = 3 ∧ fr w = 2 * w - 3) ∨ (1 ≤ w ∧ w < 3 / 2 ∧ kl w = 2 ∧ fr w = 2 * w - 2) ∨
    (1 / 2 ≤ w ∧ w < 1 ∧ kl w = 1 ∧ fr w = 2 * w - 1) ∨ (0 ≤ w ∧ w < 1 / 2 ∧ kl w = 0 ∧ fr w = 2 * w) := by
  unfold kl fr
  split_ifs <;> simp_all

theorem fr_bounds (w : ℝ) (hw : 0 ≤ w) : 0 ≤ fr w ∧ fr w ≤ 1 := by
  rcases kl_cases w hw with h | h | h | h | h | h | h | h
  · rw [h.2.2]; constructor <;> norm_num
  all_goals
    obtain ⟨h1, h2, -, h3⟩ := h
    rw [h3]
    constructor <;> linarith

theorem kc_le (w : ℝ) (hw : 0 ≤ w) (rb : BitVec 8) : kc w rb ≤ 7 := by
  unfold kc
  rcases kl_cases w hw with h | h | h | h | h | h | h | h
  · rw [h.2.1, h.2.2, if_neg]
    have : (0 : ℝ) ≤ rb.toNat := Nat.cast_nonneg _
    rw [not_lt]; positivity
  all_goals
    rw [h.2.2.1]
    split_ifs <;> omega

theorem kc_zero (rb : BitVec 8) : kc 0 rb = 0 := by
  have : (0 : ℝ) ≤ rb.toNat := Nat.cast_nonneg _
  unfold kc kl fr
  norm_num
  positivity

/-- A magnitude times its power of two, rounded up and put after its base. -/
theorem word_of (g f c : ℝ) (n b : ℕ) (hn : n ≤ 3) (hf : 0 ≤ f ∧ f ≤ 1) (h : g * c = f * 4194304 + (n * 4194304 : ℕ)) :
    Ideal.fptosi 32 (Ideal.liftRound Int.ceil ((g : EReal) * ((c : ℝ) : EReal))) + BitVec.ofNat 32 (b * 4194304) =
      BitVec.ofNat 32 ((b + n) * 4194304 + ⌈f * 4194304⌉₊) := by
  rw [← EReal.coe_mul, h, Ideal.liftRound_coe, Int.ceil_add_natCast]
  unfold Ideal.fptosi
  rw [Ideal.toIntClamped_coe]
  have hc : ⌈f * 4194304⌉ = (⌈f * 4194304⌉₊ : ℤ) := (Int.natCast_ceil_eq_ceil (by linarith)).symm
  have hle : ⌈f * 4194304⌉₊ ≤ 4194304 := Nat.ceil_le.mpr (by push_cast; linarith)
  generalize ⌈f * 4194304⌉₊ = C at hc hle
  rw [hc, Int.floor_intCast, Int.ceil_intCast, ite_self]
  rw [show max (-((2 ^ (32 - 1) : ℕ) : ℤ)) (min (((2 ^ (32 - 1) : ℕ) : ℤ) - 1) ((C : ℤ) + ((n * 4194304 : ℕ) : ℤ))) =
    ((C + n * 4194304 : ℕ) : ℤ) by push_cast; omega]
  rw [BitVec.ofInt_natCast, BitVec.ofNat_add_ofNat]
  congr 1
  ring

/-- The word of a magnitude: its interval above bit 22, its place below. -/
theorem bitsk_eq (w : ℝ) (hw : 0 ≤ w) :
    bitsk ((min (max (4 * w) (2 * w + 2)) 24 : ℝ) : EReal) =
      BitVec.ofNat 32 ((256 + kl w) * 4194304 + ⌈fr w * 4194304⌉₊) := by
  have hf := fr_bounds w hw
  unfold bitsk
  simp only [EReal.coe_le_coe_iff]
  rcases kl_cases w hw with h | h | h | h | h | h | h | h
  · have e : min (max (4 * w) (2 * w + 2)) 24 = 24 := min_eq_right (le_max_of_le_left (by linarith [h.1]))
    rw [e, if_pos (by norm_num), if_pos (by norm_num), h.2.1]
    exact word_of 24 (fr w) 524288 3 260 (by omega) hf (by rw [h.2.2]; norm_num)
  · obtain ⟨h1, h2, hk, hr⟩ := h
    have e : min (max (4 * w) (2 * w + 2)) 24 = 4 * w := by rw [max_eq_left (by linarith), min_eq_left (by linarith)]
    rw [e, if_pos (by linarith), if_pos (by linarith), hk]
    exact word_of (4 * w) (fr w) 524288 2 260 (by omega) hf (by rw [hr]; push_cast; ring)
  · obtain ⟨h1, h2, hk, hr⟩ := h
    have e : min (max (4 * w) (2 * w + 2)) 24 = 4 * w := by rw [max_eq_left (by linarith), min_eq_left (by linarith)]
    rw [e, if_neg (by linarith), if_pos (by linarith), if_neg (by linarith), if_pos (by linarith), hk]
    exact word_of (4 * w) (fr w) 1048576 3 258 (by omega) hf (by rw [hr]; push_cast; ring)
  · obtain ⟨h1, h2, hk, hr⟩ := h
    have e : min (max (4 * w) (2 * w + 2)) 24 = 4 * w := by rw [max_eq_left (by linarith), min_eq_left (by linarith)]
    rw [e, if_neg (by linarith), if_pos (by linarith), if_neg (by linarith), if_pos (by linarith), hk]
    exact word_of (4 * w) (fr w) 1048576 2 258 (by omega) hf (by rw [hr]; push_cast; ring)
  · obtain ⟨h1, h2, hk, hr⟩ := h
    have e : min (max (4 * w) (2 * w + 2)) 24 = 4 * w := by rw [max_eq_left (by linarith), min_eq_left (by linarith)]
    rw [e, if_neg (by linarith), if_neg (by linarith), if_pos (by linarith), if_neg (by linarith), if_neg (by linarith),
      if_pos (by linarith), hk]
    exact word_of (4 * w) (fr w) 2097152 3 256 (by omega) hf (by rw [hr]; push_cast; ring)
  · obtain ⟨h1, h2, hk, hr⟩ := h
    have e : min (max (4 * w) (2 * w + 2)) 24 = 4 * w := by rw [max_eq_left (by linarith), min_eq_left (by linarith)]
    rw [e, if_neg (by linarith), if_neg (by linarith), if_pos (by linarith), if_neg (by linarith), if_neg (by linarith),
      if_pos (by linarith), hk]
    exact word_of (4 * w) (fr w) 2097152 2 256 (by omega) hf (by rw [hr]; push_cast; ring)
  · obtain ⟨h1, h2, hk, hr⟩ := h
    have e : min (max (4 * w) (2 * w + 2)) 24 = 2 * w + 2 := by rw [max_eq_right (by linarith), min_eq_left (by linarith)]
    rw [e, if_neg (by linarith), if_neg (by linarith), if_neg (by linarith), if_neg (by linarith), if_neg (by linarith),
      if_neg (by linarith), hk]
    exact word_of (2 * w + 2) (fr w) 4194304 3 254 (by omega) hf (by rw [hr]; push_cast; ring)
  · obtain ⟨h1, h2, hk, hr⟩ := h
    have e : min (max (4 * w) (2 * w + 2)) 24 = 2 * w + 2 := by rw [max_eq_right (by linarith), min_eq_left (by linarith)]
    rw [e, if_neg (by linarith), if_neg (by linarith), if_neg (by linarith), if_neg (by linarith), if_neg (by linarith),
      if_neg (by linarith), hk]
    exact word_of (2 * w + 2) (fr w) 4194304 2 254 (by omega) hf (by rw [hr]; push_cast; ring)

/-- A byte of a code and a sign. -/
def cb (k : ℕ) (sg : Bool) : BitVec 8 := BitVec.ofNat 8 (4 * k + if sg then 128 else 0)

theorem mask_byte : ∀ (k : Fin 8) (l : Fin 4) (sg : Bool),
    BitVec.ofNat 8 (4 * (k.val + if sg then 32 else 0) + l.val) &&& 156#8 = cb k.val sg := by decide

/-- The topmost byte of the word under the mask. -/
theorem top_byte (T k l : ℕ) (sg : Bool) (hk : k < 8)
    (hT : T / 67108864 % 64 = k + if sg then 32 else 0) :
    (BitVec.ofNat 32 T &&& 2617245696#32).extractLsb' 24 8 = cb k sg := by
  rw [BitVec.extractLsb'_and]
  have e1 : (BitVec.ofNat 32 T).extractLsb' 24 8 = BitVec.ofNat 8 (4 * (k + if sg then 32 else 0) + T / 16777216 % 4) := by
    apply BitVec.eq_of_toNat_eq
    rw [BitVec.extractLsb'_toNat, BitVec.toNat_ofNat, BitVec.toNat_ofNat, Nat.shiftRight_eq_div_pow, ← hT]
    omega
  rw [e1, show BitVec.extractLsb' 24 8 2617245696#32 = 156#8 from by decide]
  exact mask_byte ⟨k, hk⟩ ⟨T / 16777216 % 4, by omega⟩ sg

/-- The byte of a token: its code and its sign. -/
theorem code_byte (w : ℝ) (hw : 0 ≤ w) (rb : BitVec 8) (sg : Bool) :
    (((BitVec.ofNat 32 ((256 + kl w) * 4194304 + ⌈fr w * 4194304⌉₊) <<< 4 + (((~~~rb).setWidth 32) <<< 18 + 131056#32)) +
      (if sg then 2147483648#32 else 0#32)) &&& 2617245696#32).extractLsb' 24 8 = cb (kc w rb) sg := by
  have hf := fr_bounds w hw
  have hr : rb.toNat < 256 := rb.isLt
  have hcar : (((rb.toNat : ℝ) + 1 / 2) / 256 < fr w) ↔ rb.toNat * 16384 + 8193 ≤ ⌈fr w * 4194304⌉₊ := by
    rw [Nat.succ_le_iff (m := rb.toNat * 16384 + 8192), Nat.lt_ceil]
    push_cast
    constructor <;> intro h <;> linarith
  have hle : ⌈fr w * 4194304⌉₊ ≤ 4194304 := Nat.ceil_le.mpr (by push_cast; linarith)
  have h7 := kc_le w hw rb
  have hkc : kc w rb = kl w + if rb.toNat * 16384 + 8193 ≤ ⌈fr w * 4194304⌉₊ then 1 else 0 := by
    unfold kc; simp only [hcar]
  generalize ⌈fr w * 4194304⌉₊ = C at hkc hle
  rw [hkc] at h7 ⊢
  generalize kl w = k at h7 ⊢
  have e : ((BitVec.ofNat 32 ((256 + k) * 4194304 + C) <<< 4 + (((~~~rb).setWidth 32) <<< 18 + 131056#32)) +
      (if sg then 2147483648#32 else 0#32)) =
      BitVec.ofNat 32 (((256 + k) * 4194304 + C) * 16 + ((255 - rb.toNat) * 262144 + 131056) + if sg then 2147483648 else 0) := by
    apply BitVec.eq_of_toNat_eq
    rw [BitVec.toNat_add, BitVec.toNat_add, BitVec.toNat_add, BitVec.toNat_shiftLeft, BitVec.toNat_shiftLeft,
      BitVec.toNat_setWidth, BitVec.toNat_not, BitVec.toNat_ofNat, BitVec.toNat_ofNat, BitVec.toNat_ofNat,
      Nat.shiftLeft_eq, Nat.shiftLeft_eq]
    cases sg
    · simp only [Bool.false_eq_true, if_false]
      rw [BitVec.toNat_ofNat]
      omega
    · simp only [if_true]
      rw [BitVec.toNat_ofNat]
      omega
  rw [e]
  refine top_byte _ _ 0 sg (by omega) ?_
  cases sg <;> simp only [Bool.false_eq_true, if_false, if_true] <;> split_ifs <;> omega

/-- Two tokens' bytes as one byte of two codes, a zero without its sign. -/
theorem pack_cb : ∀ (a b : Fin 8) (sa sb : Bool), packByte (cb a.val sa) (cb b.val sb) =
    (BitVec.ofNat 32 ((if sa ∧ 0 < a.val then 8 else 0) + a.val) |||
      (BitVec.ofNat 32 ((if sb ∧ 0 < b.val then 8 else 0) + b.val)) <<< 4).setWidth 8 := by decide

/-- The magnitude of a code. -/
def mag (k : ℕ) : ℝ :=
  match k with
  | 0 => 0
  | 1 => 1 / 2
  | 2 => 1
  | 3 => 3 / 2
  | 4 => 2
  | 5 => 3
  | 6 => 4
  | _ => 6

/-- The byte read as a float is the code's magnitude in multiples of one sixty-fourth. -/
theorem e4m3fn_cb (k : ℕ) (hk : k ≤ 7) (sg : Bool) :
    Ideal.e4m3fn (cb k sg) = (((if sg then -mag k else mag k) / 64 : ℝ) : EReal) := by
  interval_cases k <;> cases sg <;> simp [Ideal.e4m3fn, cb, mag, -EReal.coe_mul] <;> norm_num

end Cert.Quant

end
-- ==== Proof.Group.lean ====
/- One group of sixteen finite tokens: the butterfly is the signed Hadamard sum, the scale and the codes are those of the
   rotated tokens. -/
module

public import proofs.«01_k».proof.Proof.Code
public import Mathlib.Algebra.BigOperators.Fin

@[expose] public section

noncomputable section

namespace Cert.Quant

open Idealize.ShloMosaic

/-- Whether the Hadamard matrix is negative at `i`, `j`: the parity of the bits they share. -/
def hsg (i j : ℕ) : Bool :=
  ((i &&& j) + (i &&& j) / 2 + (i &&& j) / 4 + (i &&& j) / 8) % 2 == 1

/-- The rotated token `j`. -/
def zeta (y e : Fin 16 → ℝ) (j : ℕ) : ℝ := ∑ i : Fin 16, y i * ((if hsg j i.val then -1 else 1) * e i * (1 / 4))

/-- One stage of the butterfly on reals. -/
def stageR (h : Nat) (x : Nat → ℝ) (j : Nat) : ℝ := if j / h % 2 = 0 then x j + x (j + h) else x (j - h) - x j

theorem stage_coe (h : ℕ) (x : ℕ → ℝ) : stage h (fun j => (x j : EReal)) = fun j => ((stageR h x j : ℝ) : EReal) := by
  funext j
  unfold stage stageR
  split_ifs
  · rw [EReal.coe_add]
  · rw [EReal.coe_sub]

/-- The butterfly is four times the rotation. -/
theorem zk_eq (y e : Fin 16 → ℝ) (j : ℕ) (hj : j < 16) :
    zk (fun t => (y t : EReal)) (fun t => (e t : EReal)) j = ((4 * zeta y e j : ℝ) : EReal) := by
  unfold zk
  simp only [← EReal.coe_mul, stage_coe]
  congr 1
  unfold zeta
  rw [Finset.mul_sum]
  interval_cases j <;>
    (simp [stageR, hsg, Fin.sum_univ_succ, Fin.ofNat]; ring)

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem ab_coe (x : ℝ) : ab (x : EReal) = ((|x| : ℝ) : EReal) := by
  unfold ab
  rw [← EReal.coe_neg, coe_max]
  rfl

/-- The greatest of sixteen magnitudes. -/
def amax (z : ℕ → ℝ) : ℝ :=
  max
    (max (max (max |z 0| |z 1|) (max |z 2| |z 3|)) (max (max |z 4| |z 5|) (max |z 6| |z 7|)))
    (max (max (max |z 8| |z 9|) (max |z 10| |z 11|)) (max (max |z 12| |z 13|) (max |z 14| |z 15|)))

theorem amax_nonneg (z : ℕ → ℝ) : 0 ≤ amax z := by
  unfold amax
  exact le_max_of_le_left (le_max_of_le_left (le_max_of_le_left (le_max_of_le_left (abs_nonneg _))))

theorem amaxk_eq (y e : Fin 16 → ℝ) :
    amaxk (fun t => (y t : EReal)) (fun t => (e t : EReal)) * ((1 / 4 : ℝ) : EReal) = ((amax (zeta y e) : ℝ) : EReal) := by
  unfold amaxk amax
  simp only [zk_eq y e _ (by norm_num : 0 < 16), zk_eq y e _ (by norm_num : 1 < 16), zk_eq y e _ (by norm_num : 2 < 16),
    zk_eq y e _ (by norm_num : 3 < 16), zk_eq y e _ (by norm_num : 4 < 16), zk_eq y e _ (by norm_num : 5 < 16),
    zk_eq y e _ (by norm_num : 6 < 16), zk_eq y e _ (by norm_num : 7 < 16), zk_eq y e _ (by norm_num : 8 < 16),
    zk_eq y e _ (by norm_num : 9 < 16), zk_eq y e _ (by norm_num : 10 < 16), zk_eq y e _ (by norm_num : 11 < 16),
    zk_eq y e _ (by norm_num : 12 < 16), zk_eq y e _ (by norm_num : 13 < 16), zk_eq y e _ (by norm_num : 14 < 16),
    zk_eq y e _ (by norm_num : 15 < 16), ab_coe, coe_max, ← EReal.coe_mul]
  congr 1
  simp only [abs_mul, show |(4 : ℝ)| = 4 from abs_of_nonneg (by norm_num), ← mul_max_of_nonneg _ _ (by norm_num : (0 : ℝ) ≤ 4)]
  ring

/-- The scale of a group of greatest magnitude `a`. -/
def sbR (a : ℝ) (s6 : EReal) : EReal := min (Ideal.div (a : EReal) s6) ((448 : ℝ) : EReal)

/-- Scale times tensor scale is a real number. -/
theorem q_real (a : ℝ) (s : EReal) : ∃ Q : ℝ, sbR a (((6 : ℝ) : EReal) * s) * s = (Q : EReal) := by
  unfold sbR
  induction s using EReal.rec with
  | bot =>
    refine ⟨0, ?_⟩
    rw [EReal.coe_mul_bot_of_pos (by norm_num)]
    unfold Ideal.div
    rw [if_neg (by simp), EReal.inv_bot, mul_zero, min_eq_left (by rw [← EReal.coe_zero, EReal.coe_le_coe_iff]; norm_num), zero_mul]
    rfl
  | top =>
    refine ⟨0, ?_⟩
    rw [EReal.coe_mul_top_of_pos (by norm_num)]
    unfold Ideal.div
    rw [if_neg (by simp), EReal.inv_top, mul_zero, min_eq_left (by rw [← EReal.coe_zero, EReal.coe_le_coe_iff]; norm_num), zero_mul]
    rfl
  | coe s =>
    by_cases h : s = 0
    · subst h
      exact ⟨0, by rw [EReal.coe_zero, mul_zero]⟩
    · refine ⟨min (a * (1 / (6 * s))) 448 * s, ?_⟩
      rw [← EReal.coe_mul, Ideal.div_coe (mul_ne_zero (by norm_num) h), ← EReal.coe_mul, coe_min, ← EReal.coe_mul]

theorem rk_eq (y e : Fin 16 → ℝ) (s6 : EReal) :
    rk (fun t => (y t : EReal)) (fun t => (e t : EReal)) s6 = sbR (amax (zeta y e)) s6 := by
  unfold rk sbR
  rw [amaxk_eq]

/-- The magnitude of a token on the scale `Q`, zero where `Q` is not positive. -/
def wR (Q z : ℝ) : ℝ := if 0 < Q then |z| / Q else 0

theorem wR_nonneg (Q z : ℝ) : 0 ≤ wR Q z := by
  unfold wR
  split_ifs with h
  · exact div_nonneg (abs_nonneg _) h.le
  · exact le_rfl

/-- The kernel's byte of a token is its code and its sign. -/
theorem fk_eq (y e : Fin 16 → ℝ) (s : EReal) (rb : BitVec 8) (t : ℕ) (ht : t < 16) (Q : ℝ)
    (hQ : sbR (amax (zeta y e)) (((6 : ℝ) : EReal) * s) * s = (Q : EReal)) :
    fk (fun t => (y t : EReal)) (fun t => (e t : EReal)) s (((6 : ℝ) : EReal) * s) rb t =
      cb (kc (wR Q (zeta y e t)) rb) (decide (zeta y e t < 0)) := by
  have hi : invk (fun t => (y t : EReal)) (fun t => (e t : EReal)) s (((6 : ℝ) : EReal) * s) =
      ((if 0 < Q then 1 / Q else 0 : ℝ) : EReal) := by
    unfold invk
    rw [rk_eq, hQ]
    by_cases h : 0 < Q
    · rw [if_pos (EReal.coe_pos.mpr h), if_pos h, Ideal.div_coe h.ne', one_mul]
    · rw [if_neg (fun h' => h (EReal.coe_pos.mp h')), if_neg h]; rfl
  have hg : gk (fun t => (y t : EReal)) (fun t => (e t : EReal)) s (((6 : ℝ) : EReal) * s) t =
      ((min (max (4 * wR Q (zeta y e t)) (2 * wR Q (zeta y e t) + 2)) 24 : ℝ) : EReal) := by
    unfold gk
    rw [hi, zk_eq y e t ht, ab_coe, ← EReal.coe_mul, ← EReal.coe_mul, ← EReal.coe_mul, ← EReal.coe_add, coe_max, coe_min]
    congr 1
    have e4 : |4 * zeta y e t| = 4 * |zeta y e t| := by rw [abs_mul, abs_of_nonneg (by norm_num : (0 : ℝ) ≤ 4)]
    rw [e4]
    unfold wR
    split_ifs
    · congr 2 <;> ring
    · congr 2 <;> ring
  unfold fk mk
  rw [hg, bitsk_eq _ (wR_nonneg _ _), zk_eq y e t ht]
  have hs : (((4 * zeta y e t : ℝ) : EReal) < 0) ↔ zeta y e t < 0 := by
    rw [← EReal.coe_zero, EReal.coe_lt_coe_iff]
    constructor <;> intro h <;> linarith
  have := code_byte (wR Q (zeta y e t)) (wR_nonneg _ _) rb (decide (zeta y e t < 0))
  simpa only [hs, decide_eq_true_eq] using this

/-- A code is positive only on a positive scale. -/
theorem kc_pos (Q z : ℝ) (rb : BitVec 8) (h : 0 < kc (wR Q z) rb) : 0 < Q := by
  by_contra hQ
  unfold wR at h
  rw [if_neg hQ, kc_zero] at h
  exact absurd h (lt_irrefl _)

end Cert.Quant

end
-- ==== Proof.Entry.lean ====
/- The arrays that the kernel's region finds, at an index, from the arguments. -/
module

public import proofs.«01_k».proof.Proof.Final
public import proofs.«01_k».proof.Proof.Group

@[expose] public section

set_option maxRecDepth 16384

noncomputable section

namespace Cert.KernelIdeal.Hand

open Idealize.ShloMosaic Idealize.ShloMosaic.TcCoe Idealize.ShloMosaic.Tactic
open Cert.KernelIdeal.Gen Cert.Quant

variable (m : (ℓ : Loc nD τ sig) → Buf (Elt Ideal) ℓ) (c : Dev nD)

/-- The arguments. -/
def aY : Vec Ideal S7x256x18944 .bf16 := m ((c.tc : Thread nD τ).loc main_arg0)
@[inherit_doc aY] def aE : Vec Ideal S16 .f32 := m ((c.tc : Thread nD τ).loc main_arg1)
@[inherit_doc aY] def aB : Vec Ideal S7x256x18944 .i8 := m ((c.tc : Thread nD τ).loc main_arg2)
@[inherit_doc aY] def aS : Vec Ideal S1 .f32 := m ((c.tc : Thread nD τ).loc main_arg3)
@[inherit_doc aY] def aT : Vec Ideal S1 .f32 := m ((c.tc : Thread nD τ).loc main_arg4)
@[inherit_doc aY] def aX : Vec Ideal S1792x3584 .bf16 := m ((c.tc : Thread nD τ).loc main_arg5)

theorem vY_at (q : Fin 1792) (r : Fin 18944) : vY m c (ix2 q r) = aY m c (ix3 ⟨q.val / 256, by omega⟩ ⟨q.val % 256, by omega⟩ r) := by
  unfold vY
  entry_read
  pointwise
  rfl

theorem vB_at (q : Fin 1792) (r : Fin 18944) : vB m c (ix2 q r) = aB m c (ix3 ⟨q.val / 256, by omega⟩ ⟨q.val % 256, by omega⟩ r) := by
  unfold vB
  entry_read
  pointwise
  rfl

/-- The token that column `q` of the dequantised operand belongs to. -/
def tok (q : Fin 1792) : Fin 1792 := ⟨16 * gq q.val + tq q.val, by unfold gq tq; omega⟩

theorem vX_at (q : Fin 1792) (n : Fin 3584) : (vX m c (ix2 q n) : EReal) = aX m c (ix2 (tok q) n) * ((1 / 64 : ℝ) : EReal) := by
  have e : tok q = ⟨q.val / 128 * 128 + q.val / 4 % 8 * 16 + q.val / 64 % 2 * 8 + q.val % 4 * 2 + q.val / 32 % 2, by omega⟩ :=
    Fin.ext (by unfold tok gq tq; dsimp only; omega)
  have h : Ideal.ofBits FTy.bf16 15488#16 = ((1 / 64 : ℝ) : EReal) := by
    simp [Ideal.ofBits, Ideal.ieee, -EReal.coe_mul]; norm_num
  rw [← h, e]
  unfold vX
  entry_read
  pointwise
  rfl

theorem bit_lo : ∀ p q : Bool, Scalar.cmpi .ne (Scalar.andi (Scalar.shrui (IntOp.ori (IntOp.shli ArithUnit.host (BitVec.setWidth 32 (BitVec.ofBool p)) 15#32)
    (IntOp.shli ArithUnit.host (BitVec.setWidth 32 (BitVec.ofBool q)) 31#32)) 15#32) 1#32) 0#32 = BitVec.ofBool p := by decide
theorem bit_hi : ∀ p q : Bool, Scalar.cmpi .ne (Scalar.andi (Scalar.shrui (IntOp.ori (IntOp.shli ArithUnit.host (BitVec.setWidth 32 (BitVec.ofBool p)) 15#32)
    (IntOp.shli ArithUnit.host (BitVec.setWidth 32 (BitVec.ofBool q)) 31#32)) 31#32) 1#32) 0#32 = BitVec.ofBool q := by decide

theorem vM_at (n : Fin 8) : vM m c (ix1 n) =
    IntOp.ori (IntOp.shli ArithUnit.host (BitVec.setWidth 32 (BitVec.ofBool (decide ((aE m c (ix1 ⟨n.val * 2, by omega⟩) : EReal) < 0)))) 15#32)
      (IntOp.shli ArithUnit.host (BitVec.setWidth 32 (BitVec.ofBool (decide ((aE m c (ix1 ⟨n.val * 2 + 1, by omega⟩) : EReal) < 0)))) 31#32) := by
  unfold vM
  entry_read
  pointwise
  rfl

theorem sign_of (x : EReal) (e : ℝ) (hx : x = ((e : ℝ) : EReal)) (he : e = 1 ∨ e = -1) :
    Scalar.select (BitVec.ofBool (decide (x < 0))) (Scalar.ofBits (F := Ideal) .f32 0xBF800000#32) (Scalar.ofBits (F := Ideal) .f32 0x3F800000#32) =
      ((e : ℝ) : EReal) := by
  have h1 : Ideal.ofBits .f32 0x3F800000#32 = ((1 : ℝ) : EReal) := by
    simp [Ideal.ofBits, Ideal.ieee, -EReal.coe_mul]; norm_num
  have h2 : Ideal.ofBits .f32 0xBF800000#32 = ((-1 : ℝ) : EReal) := by
    simp [Ideal.ofBits, Ideal.ieee, -EReal.coe_mul]; norm_num
  subst hx
  rcases he with rfl | rfl
  · rw [decide_eq_false (by rw [← EReal.coe_zero, EReal.coe_lt_coe_iff]; norm_num)]; exact h1
  · rw [decide_eq_true (by rw [← EReal.coe_zero, EReal.coe_lt_coe_iff]; norm_num)]; exact h2

/-- The signs that the mask words hold are the signs given. -/
theorem sgE_eq (e : Fin 16 → ℝ) (hx : ∀ x, (aE m c (ix1 x) : EReal) = ((e x : ℝ) : EReal)) (he : ∀ x, e x = 1 ∨ e x = -1) :
    sgE (vM m c) = fun t => ((e t : ℝ) : EReal) := by
  funext t
  unfold sgE sg1
  rw [vM_at]
  by_cases h : t.val % 2 = 0
  · rw [if_pos h, bit_lo]
    refine sign_of _ _ ?_ (he t)
    rw [← hx]
    congr 2
    exact Fin.ext (by show t.val / 2 * 2 = t.val; omega)
  · rw [if_neg h, bit_hi]
    refine sign_of _ _ ?_ (he t)
    rw [← hx]
    congr 2
    exact Fin.ext (by show t.val / 2 * 2 + 1 = t.val; omega)

end Cert.KernelIdeal.Hand

end
-- ==== Proof.Scal.lean ====
/- The three scales that the kernel's region finds, from the arguments. -/
module

public import proofs.«01_k».proof.Proof.Entry

@[expose] public section

set_option maxRecDepth 16384

noncomputable section

namespace Cert.KernelIdeal.Hand

open Idealize.ShloMosaic Idealize.ShloMosaic.TcCoe Idealize.ShloMosaic.Tactic
open Cert.KernelIdeal.Gen Cert.Quant

/-- After the last seven host operations the scales are the concatenation of their three parts. -/
theorem tail_cat (σ : Valuation τ sig (Elt Ideal)) :
    (StableHlo.after ((hostOps0 (F := Ideal)).drop 30) σ (Proc.devRef .tc main_v25) : Vec Ideal S3 .f32) =
    concatenate S3 0 [⟨S1, (σ (Proc.devRef .tc main_v22) : Vec Ideal S1 .f32)⟩,
      ⟨S1, (σ (Proc.devRef .tc main_v23) : Vec Ideal S1 .f32)⟩,
      ⟨S1, (σ (Proc.devRef .tc main_v24) : Vec Ideal S1 .f32)⟩] concatenates_S1_S1_S1_S3_d0 := by
  simp only [hostOps0, List.drop, StableHlo.after_cons, StableHlo.after_nil]
  refine Eq.trans (StableHlo.binary_result_ne (h := ?_) ..) ?_
  rotate_left
  refine Eq.trans (StableHlo.unary_result_ne (h := ?_) ..) ?_
  rotate_left
  refine Eq.trans (StableHlo.nullary_result_ne (h := ?_) ..) ?_
  rotate_left
  refine Eq.trans (StableHlo.reshape_result_ne (h := ?_) ..) ?_
  rotate_left
  refine Eq.trans (StableHlo.unary_result_ne (h := ?_) ..) ?_
  rotate_left
  refine Eq.trans (StableHlo.reshape_result_ne (h := ?_) ..) ?_
  rotate_left
  exact StableHlo.nary_result ..
  all_goals decide

theorem cat_congr {a a' b b' d d' : Vec Ideal S1 .f32} (h1 : a = a') (h2 : b = b') (h3 : d = d') :
    concatenate S3 0 [⟨S1, a⟩, ⟨S1, b⟩, ⟨S1, d⟩] concatenates_S1_S1_S1_S3_d0 =
      concatenate S3 0 [⟨S1, a'⟩, ⟨S1, b'⟩, ⟨S1, d'⟩] concatenates_S1_S1_S1_S3_d0 := by
  subst h1 h2 h3
  rfl

theorem tail_keep (σ : Valuation τ sig (Elt Ideal)) (b : Ref sig .tc) (h : b = main_v22 ∨ b = main_v23 ∨ b = main_v24) :
    StableHlo.after ((hostOps0 (F := Ideal)).drop 30) σ (Proc.devRef .tc b) = σ (Proc.devRef .tc b) := by
  simp only [hostOps0, List.drop, StableHlo.after_cons, StableHlo.after_nil]
  refine Eq.trans (StableHlo.binary_result_ne (h := ?_) ..) ?_
  rotate_left
  refine Eq.trans (StableHlo.unary_result_ne (h := ?_) ..) ?_
  rotate_left
  refine Eq.trans (StableHlo.nullary_result_ne (h := ?_) ..) ?_
  rotate_left
  refine Eq.trans (StableHlo.reshape_result_ne (h := ?_) ..) ?_
  rotate_left
  refine Eq.trans (StableHlo.unary_result_ne (h := ?_) ..) ?_
  rotate_left
  refine Eq.trans (StableHlo.reshape_result_ne (h := ?_) ..) ?_
  rotate_left
  refine StableHlo.nary_result_ne (h := ?_) ..
  all_goals (rcases h with rfl | rfl | rfl <;> decide)

variable (m : (ℓ : Loc nD τ sig) → Buf (Elt Ideal) ℓ) (c : Dev nD)

theorem vS_cat : vS m c = concatenate S3 0 [⟨S1, (V m c main_v22 : Vec Ideal S1 .f32)⟩, ⟨S1, (V m c main_v23 : Vec Ideal S1 .f32)⟩,
      ⟨S1, (V m c main_v24 : Vec Ideal S1 .f32)⟩] concatenates_S1_S1_S1_S3_d0 := by
  have h := tail_cat (StableHlo.after ((hostOps0 (F := Ideal)).take 30) (fun b => m (c, b)))
  have h1 := tail_keep (StableHlo.after ((hostOps0 (F := Ideal)).take 30) (fun b => m (c, b))) main_v22 (.inl rfl)
  have h2 := tail_keep (StableHlo.after ((hostOps0 (F := Ideal)).take 30) (fun b => m (c, b))) main_v23 (.inr (.inl rfl))
  have h3 := tail_keep (StableHlo.after ((hostOps0 (F := Ideal)).take 30) (fun b => m (c, b))) main_v24 (.inr (.inr rfl))
  exact h.trans (cat_congr h1.symm h2.symm h3.symm)

theorem v22_at : ((V m c main_v22 : Vec Ideal S1 .f32) (ix1 0) : EReal) = aS m c (ix1 0) := by
  entry_read
  pointwise
  rfl

theorem v23_at : ((V m c main_v23 : Vec Ideal S1 .f32) (ix1 0) : EReal) = ((6 : ℝ) : EReal) * aS m c (ix1 0) := by
  have h : Ideal.ofBits .f32 0x40C00000#32 = ((6 : ℝ) : EReal) := by
    simp [Ideal.ofBits, Ideal.ieee, -EReal.coe_mul]; norm_num
  rw [← h]
  entry_read
  pointwise
  rfl

theorem v24_at : ((V m c main_v24 : Vec Ideal S1 .f32) (ix1 0) : EReal) = aS m c (ix1 0) * aT m c (ix1 0) * ((4096 : ℝ) : EReal) := by
  have h : Ideal.ofBits .f32 0x45800000#32 = ((4096 : ℝ) : EReal) := by
    simp [Ideal.ofBits, Ideal.ieee, -EReal.coe_mul]; norm_num
  rw [← h]
  entry_read
  pointwise
  rfl

theorem vS_0 : (vS m c (ix1 0) : EReal) = aS m c (ix1 0) := by
  rw [← v22_at, vS_cat]
  rfl

theorem vS_1 : (vS m c (ix1 1) : EReal) = ((6 : ℝ) : EReal) * aS m c (ix1 0) := by
  rw [← v23_at, vS_cat]
  rfl

theorem vS_2 : (vS m c (ix1 2) : EReal) = aS m c (ix1 0) * aT m c (ix1 0) * ((4096 : ℝ) : EReal) := by
  rw [← v24_at, vS_cat]
  rfl

end Cert.KernelIdeal.Hand

end
-- ==== Proof.RefAt.lean ====
/- The reference's body at an index: the scale of a group, the code of a token, and what the code stands for. -/
module

public import proofs.«01_k».proof.Proof.Group
public import proofs.«01_k».proof.Proof.Gen.ReferenceIdeal.Value

@[expose] public section

set_option maxRecDepth 16384

noncomputable section

namespace Cert.ReferenceIdeal.Hand

open Idealize.ShloMosaic Cert.ReferenceIdeal.Gen Cert.Quant

theorem c_half : Ideal.ofBits .f32 0x3F000000#32 = ((1 / 2 : ℝ) : EReal) := by
  simp [Ideal.ofBits, Ideal.ieee, -EReal.coe_mul]; norm_num
theorem c_3half : Ideal.ofBits .f32 0x3FC00000#32 = ((3 / 2 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_3 : Ideal.ofBits .f32 0x40400000#32 = ((3 : ℝ) : EReal) := by
  simp [Ideal.ofBits, Ideal.ieee, -EReal.coe_mul]; norm_num
theorem c_4 : Ideal.ofBits .f32 0x40800000#32 = ((4 : ℝ) : EReal) := by
  simp [Ideal.ofBits, Ideal.ieee, -EReal.coe_mul]; norm_num
theorem c_6 : Ideal.ofBits .f32 0x40C00000#32 = ((6 : ℝ) : EReal) := by
  simp [Ideal.ofBits, Ideal.ieee, -EReal.coe_mul]; norm_num
theorem c_448 : Ideal.ofBits .f32 0x43E00000#32 = ((448 : ℝ) : EReal) := by
  simp [Ideal.ofBits, Ideal.ieee, -EReal.coe_mul]; norm_num
theorem c_256th : Ideal.ofBits .f32 0x3B800000#32 = ((1 / 256 : ℝ) : EReal) := by
  simp [Ideal.ofBits, Ideal.ieee, -EReal.coe_mul]; norm_num
theorem c_ninf : Ideal.ofBits .f32 0xFF800000#32 = (⊥ : EReal) := by
  simp [Ideal.ofBits, Ideal.ieee]

theorem absf_coe (x : ℝ) : (FloatOps.absf (F := Ideal) (φ := .f32) (x : EReal) : EReal) = ((|x| : ℝ) : EReal) := by
  rw [← ab_coe]
  rfl

/-- A comparison's bit as a word. -/
theorem bt {p : Prop} [Decidable p] (h : p) : BitVec.setWidth 32 (BitVec.ofBool (decide p)) = 1#32 := by
  rw [decide_eq_true h]; rfl
theorem bf {p : Prop} [Decidable p] (h : ¬ p) : BitVec.setWidth 32 (BitVec.ofBool (decide p)) = 0#32 := by
  rw [decide_eq_false h]; rfl

/-- Counting the thresholds that a magnitude reaches gives its interval. -/
theorem count_eq (w : ℝ) (hw : 0 ≤ w) :
    IntOp.addi (IntOp.addi (IntOp.addi (IntOp.addi
      (IntOp.addi (IntOp.addi (BitVec.setWidth 32 (BitVec.ofBool (decide (1 / 2 ≤ w)))) (BitVec.setWidth 32 (BitVec.ofBool (decide (1 ≤ w)))))
        (BitVec.setWidth 32 (BitVec.ofBool (decide (3 / 2 ≤ w)))))
      (BitVec.setWidth 32 (BitVec.ofBool (decide (2 ≤ w))))) (BitVec.setWidth 32 (BitVec.ofBool (decide (3 ≤ w)))))
      (BitVec.setWidth 32 (BitVec.ofBool (decide (4 ≤ w))))) (BitVec.setWidth 32 (BitVec.ofBool (decide (6 ≤ w)))) =
    BitVec.ofNat 32 (kl w) := by
  rcases kl_cases w hw with h | h | h | h | h | h | h | h
  · obtain ⟨h1, hk, -⟩ := h
    rw [hk, bt (p := 1/2 ≤ w) (by linarith), bt (p := 1 ≤ w) (by linarith), bt (p := 3/2 ≤ w) (by linarith), bt (p := 2 ≤ w) (by linarith), bt (p := 3 ≤ w) (by linarith), bt (p := 4 ≤ w) (by linarith), bt (p := 6 ≤ w) (by linarith)]; decide
  · obtain ⟨h1, h2, hk, -⟩ := h
    rw [hk, bt (p := 1/2 ≤ w) (by linarith), bt (p := 1 ≤ w) (by linarith), bt (p := 3/2 ≤ w) (by linarith), bt (p := 2 ≤ w) (by linarith), bt (p := 3 ≤ w) (by linarith), bt (p := 4 ≤ w) (by linarith), bf (p := 6 ≤ w) (by linarith)]; decide
  · obtain ⟨h1, h2, hk, -⟩ := h
    rw [hk, bt (p := 1/2 ≤ w) (by linarith), bt (p := 1 ≤ w) (by linarith), bt (p := 3/2 ≤ w) (by linarith), bt (p := 2 ≤ w) (by linarith), bt (p := 3 ≤ w) (by linarith), bf (p := 4 ≤ w) (by linarith), bf (p := 6 ≤ w) (by linarith)]; decide
  · obtain ⟨h1, h2, hk, -⟩ := h
    rw [hk, bt (p := 1/2 ≤ w) (by linarith), bt (p := 1 ≤ w) (by linarith), bt (p := 3/2 ≤ w) (by linarith), bt (p := 2 ≤ w) (by linarith), bf (p := 3 ≤ w) (by linarith), bf (p := 4 ≤ w) (by linarith), bf (p := 6 ≤ w) (by linarith)]; decide
  · obtain ⟨h1, h2, hk, -⟩ := h
    rw [hk, bt (p := 1/2 ≤ w) (by linarith), bt (p := 1 ≤ w) (by linarith), bt (p := 3/2 ≤ w) (by linarith), bf (p := 2 ≤ w) (by linarith), bf (p := 3 ≤ w) (by linarith), bf (p := 4 ≤ w) (by linarith), bf (p := 6 ≤ w) (by linarith)]; decide
  · obtain ⟨h1, h2, hk, -⟩ := h
    rw [hk, bt (p := 1/2 ≤ w) (by linarith), bt (p := 1 ≤ w) (by linarith), bf (p := 3/2 ≤ w) (by linarith), bf (p := 2 ≤ w) (by linarith), bf (p := 3 ≤ w) (by linarith), bf (p := 4 ≤ w) (by linarith), bf (p := 6 ≤ w) (by linarith)]; decide
  · obtain ⟨h1, h2, hk, -⟩ := h
    rw [hk, bt (p := 1/2 ≤ w) (by linarith), bf (p := 1 ≤ w) (by linarith), bf (p := 3/2 ≤ w) (by linarith), bf (p := 2 ≤ w) (by linarith), bf (p := 3 ≤ w) (by linarith), bf (p := 4 ≤ w) (by linarith), bf (p := 6 ≤ w) (by linarith)]; decide
  · obtain ⟨h1, h2, hk, -⟩ := h
    rw [hk, bf (p := 1/2 ≤ w) (by linarith), bf (p := 1 ≤ w) (by linarith), bf (p := 3/2 ≤ w) (by linarith), bf (p := 2 ≤ w) (by linarith), bf (p := 3 ≤ w) (by linarith), bf (p := 4 ≤ w) (by linarith), bf (p := 6 ≤ w) (by linarith)]; decide

/-- The magnitude that the three low bits of a word select. -/
def magS (k : BitVec 32) : EReal :=
  Scalar.select (IntOp.cmpi CmpIPredicate.sgt (IntOp.andi k 4#32) 0#32)
    (Scalar.select (IntOp.cmpi CmpIPredicate.sgt (IntOp.andi k 2#32) 0#32)
      (Scalar.select (IntOp.cmpi CmpIPredicate.sgt (IntOp.andi k 1#32) 0#32)
        (Ideal.ofBits FTy.f32 1086324736#32) (Ideal.ofBits FTy.f32 1082130432#32))
      (Scalar.select (IntOp.cmpi CmpIPredicate.sgt (IntOp.andi k 1#32) 0#32)
        (Ideal.ofBits FTy.f32 1077936128#32) (Ideal.ofBits FTy.f32 1073741824#32)))
    (Scalar.select (IntOp.cmpi CmpIPredicate.sgt (IntOp.andi k 2#32) 0#32)
      (Scalar.select (IntOp.cmpi CmpIPredicate.sgt (IntOp.andi k 1#32) 0#32)
        (Ideal.ofBits FTy.f32 1069547520#32) 1)
      (Scalar.select (IntOp.cmpi CmpIPredicate.sgt (IntOp.andi k 1#32) 0#32)
        (Ideal.ofBits FTy.f32 1056964608#32) 0))

theorem magS_eq (k b : ℕ) (hk : k < 8) (hb : b = 0 ∨ b = 8) : magS (BitVec.ofNat 32 (b + k)) = ((mag k : ℝ) : EReal) := by
  unfold magS
  rw [c_6, c_4, c_3, c_2, c_3half, c_half]
  rcases hb with rfl | rfl <;> interval_cases k <;> simp [Scalar.select, IntOp.cmpi, IntOp.andi, mag]

/-- The place of a magnitude between the two neighbours. -/
theorem place_eq (w : ℝ) (hw : 0 ≤ w) :
    (if (0 : ℝ) < mag (min (kl w + 1) 7) - mag (kl w) then (min w 6 - mag (kl w)) / (mag (min (kl w + 1) 7) - mag (kl w)) else 0) = fr w := by
  rcases kl_cases w hw with h | h | h | h | h | h | h | h
  · obtain ⟨h1, hk, hf⟩ := h
    rw [hk, hf]
    norm_num [mag]
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring
  · obtain ⟨h1, h2, hk, hf⟩ := h
    rw [hk, hf, min_eq_left (by linarith : w ≤ 6)]
    norm_num [mag]
    try ring

section

variable (z : Vec Ideal S18944x112x16 .f32) (s : EReal) (r : Fin 18944) (G : Fin 112)

/-- The scale of a group, as the reference computes it. -/
theorem pay2_at : (k0_pay2 (F := Ideal) z s (ix2 r G) : EReal) =
    min (Ideal.div (Finset.univ.fold max ⊥ fun x : Fin 16 => (FloatOps.absf (F := Ideal) (φ := .f32) (z (ix3 r G x)) : EReal)) (((6 : ℝ) : EReal) * s))
      ((448 : ℝ) : EReal) := by
  pointwise [k0_pay2, k0_pay1]
  rw [c_ninf, c_6, c_448]

theorem le_amax (y : ℕ → ℝ) (x : Fin 16) : |y x.val| ≤ amax y := by
  unfold amax
  fin_cases x <;> simp only [le_max_iff, le_refl, true_or, or_true]

/-- The greatest magnitude. -/
theorem fold_amax (y : ℕ → ℝ) : (Finset.univ.fold max ⊥ fun x : Fin 16 => ((|y x.val| : ℝ) : EReal)) = ((amax y : ℝ) : EReal) := by
  apply le_antisymm
  · rw [Finset.fold_max_le]
    exact ⟨bot_le, fun x _ => EReal.coe_le_coe_iff.mpr (le_amax y x)⟩
  · unfold amax
    simp only [← coe_max]
    simp only [max_le_iff]
    refine ⟨⟨⟨⟨?_, ?_⟩, ?_, ?_⟩, ⟨?_, ?_⟩, ?_, ?_⟩, ⟨⟨?_, ?_⟩, ?_, ?_⟩, ⟨?_, ?_⟩, ?_, ?_⟩
    · exact (Finset.le_fold_max _).mpr (Or.inr ⟨0, Finset.mem_univ _, le_rfl⟩)
    · exact (Finset.le_fold_max _).mpr (Or.inr ⟨1, Finset.mem_univ _, le_rfl⟩)
    · exact (Finset.le_fold_max _).mpr (Or.inr ⟨2, Finset.mem_univ _, le_rfl⟩)
    · exact (Finset.le_fold_max _).mpr (Or.inr ⟨3, Finset.mem_univ _, le_rfl⟩)
    · exact (Finset.le_fold_max _).mpr (Or.inr ⟨4, Finset.mem_univ _, le_rfl⟩)
    · exact (Finset.le_fold_max _).mpr (Or.inr ⟨5, Finset.mem_univ _, le_rfl⟩)
    · exact (Finset.le_fold_max _).mpr (Or.inr ⟨6, Finset.mem_univ _, le_rfl⟩)
    · exact (Finset.le_fold_max _).mpr (Or.inr ⟨7, Finset.mem_univ _, le_rfl⟩)
    · exact (Finset.le_fold_max _).mpr (Or.inr ⟨8, Finset.mem_univ _, le_rfl⟩)
    · exact (Finset.le_fold_max _).mpr (Or.inr ⟨9, Finset.mem_univ _, le_rfl⟩)
    · exact (Finset.le_fold_max _).mpr (Or.inr ⟨10, Finset.mem_univ _, le_rfl⟩)
    · exact (Finset.le_fold_max _).mpr (Or.inr ⟨11, Finset.mem_univ _, le_rfl⟩)
    · exact (Finset.le_fold_max _).mpr (Or.inr ⟨12, Finset.mem_univ _, le_rfl⟩)
    · exact (Finset.le_fold_max _).mpr (Or.inr ⟨13, Finset.mem_univ _, le_rfl⟩)
    · exact (Finset.le_fold_max _).mpr (Or.inr ⟨14, Finset.mem_univ _, le_rfl⟩)
    · exact (Finset.le_fold_max _).mpr (Or.inr ⟨15, Finset.mem_univ _, le_rfl⟩)

variable (y : ℕ → ℝ) (hz : ∀ x : Fin 16, (z (ix3 r G x) : EReal) = ((y x.val : ℝ) : EReal))
include hz

theorem scale_at : (k0_pay2 (F := Ideal) z s (ix2 r G) : EReal) = sbR (amax y) (((6 : ℝ) : EReal) * s) := by
  rw [pay2_at]
  simp only [hz, absf_coe]
  rw [fold_amax]
  rfl

variable (Q : ℝ) (hQ : sbR (amax y) (((6 : ℝ) : EReal) * s) * s = (Q : EReal))
include hQ

/-- A token on its group's scale. -/
theorem pay3_at (t : Fin 16) : (k0_pay3 (F := Ideal) z s (ix3 r G t) : EReal) = ((if 0 < Q then y t.val / Q else 0 : ℝ) : EReal) := by
  pointwise [k0_pay3, k0_pay1]
  rw [scale_at z s r G y hz, hQ, hz]
  by_cases h : 0 < Q
  · rw [if_pos (EReal.coe_pos.mpr h), if_pos (EReal.coe_pos.mpr h), if_pos h, Ideal.div_coe h.ne', ← EReal.coe_mul, mul_one_div]
  · rw [if_neg (fun h' => h (EReal.coe_pos.mp h')), if_neg h]; rfl

theorem pay4_at (t : Fin 16) : (k0_pay4 (F := Ideal) z s (ix3 r G t) : EReal) = ((min (wR Q (y t.val)) 6 : ℝ) : EReal) := by
  pointwise [k0_pay4]
  rw [pay3_at z s r G y hz Q hQ, absf_coe, c_6, coe_min]
  congr 2
  unfold wR
  split_ifs with h
  · rw [abs_div, abs_of_pos h]
  · exact abs_zero

/-- Its interval. -/
theorem pay7_at (t : Fin 16) : k0_pay7 (F := Ideal) (k0_pay4 z s) (k0_pay5 z s) (k0_pay6 z s) (ix3 r G t) =
    BitVec.ofNat 32 (kl (wR Q (y t.val))) := by
  rw [← count_eq _ (wR_nonneg _ _)]
  pointwise [k0_pay7, k0_pay5, k0_pay6]
  rw [pay4_at z s r G y hz Q hQ, c_half, c_3half, c_2, c_3, c_4, c_6, ← EReal.coe_one]
  simp only [EReal.coe_le_coe_iff, le_min_iff, show ((1 / 2 : ℝ) ≤ 6) by norm_num, show ((1 : ℝ) ≤ 6) by norm_num, show ((3 / 2 : ℝ) ≤ 6) by norm_num,
    show ((2 : ℝ) ≤ 6) by norm_num, show ((3 : ℝ) ≤ 6) by norm_num, show ((4 : ℝ) ≤ 6) by norm_num, le_refl, and_true]

omit hz hQ in
theorem kl_lt (w : ℝ) : kl w < 8 := by
  unfold kl
  split_ifs <;> norm_num

theorem pay8_at (t : Fin 16) : (k0_pay8 (F := Ideal) (k0_pay4 z s) (k0_pay5 z s) (k0_pay6 z s) (ix3 r G t) : EReal) =
    ((mag (kl (wR Q (y t.val))) : ℝ) : EReal) := by
  pointwise [k0_pay8]
  rw [pay7_at z s r G y hz Q hQ]
  have := magS_eq (kl (wR Q (y t.val))) 0 (kl_lt _) (Or.inl rfl)
  rw [Nat.zero_add] at this
  exact this

omit hz hQ in
theorem mins_eq (k : ℕ) (hk : k < 8) : IntOp.minsi (IntOp.addi (BitVec.ofNat 32 k) 1#32) 7#32 = BitVec.ofNat 32 (min (k + 1) 7) := by
  interval_cases k <;> decide

/-- Its place in the interval. -/
theorem pay10_at (t : Fin 16) : (k0_pay10 (F := Ideal) (k0_pay4 z s) (k0_pay8 (k0_pay4 z s) (k0_pay5 z s) (k0_pay6 z s))
      (k0_pay9 (k0_pay4 z s) (k0_pay5 z s) (k0_pay6 z s)) (ix3 r G t) : EReal) = ((fr (wR Q (y t.val)) : ℝ) : EReal) := by
  pointwise [k0_pay10, k0_pay9]
  rw [pay7_at z s r G y hz Q hQ, pay8_at z s r G y hz Q hQ, pay4_at z s r G y hz Q hQ, mins_eq _ (kl_lt _)]
  have hm := magS_eq (min (kl (wR Q (y t.val)) + 1) 7) 0 (by omega) (Or.inl rfl)
  rw [Nat.zero_add] at hm
  unfold magS at hm
  rw [hm, ← EReal.coe_sub, ← EReal.coe_sub, ← place_eq _ (wR_nonneg _ _)]
  by_cases h : (0 : ℝ) < mag (min (kl (wR Q (y t.val)) + 1) 7) - mag (kl (wR Q (y t.val)))
  · rw [if_pos (EReal.coe_pos.mpr h), if_pos (EReal.coe_pos.mpr h), if_pos h, Ideal.div_coe h.ne', ← EReal.coe_mul, mul_one_div]
  · rw [if_neg (fun h' => h (EReal.coe_pos.mp h')), if_neg h]; rfl

omit hz hQ in
theorem byte_float (v : BitVec 8) : (FloatOps.sitofp (F := Ideal) FTy.f32 (BitVec.setWidth 32 v) : EReal) = ((v.toNat : ℝ) : EReal) := by
  have : (BitVec.setWidth 32 v).toInt = (v.toNat : ℤ) := by
    rw [BitVec.toInt_setWidth]
    have := v.isLt
    rw [Int.bmod_def]
    norm_num
    omega
  show (((BitVec.setWidth 32 v).toInt : ℝ) : EReal) = _
  rw [this, Int.cast_natCast]

omit hz hQ in
theorem sign_code : ∀ (b : Bool) (k : Fin 9), IntOp.ori (IntOp.shli ArithUnit.vector (BitVec.setWidth 32 (IntOp.andi (BitVec.ofBool b)
    (IntOp.cmpi CmpIPredicate.sgt (BitVec.ofNat 32 k.val) 0#32))) 3#32) (BitVec.ofNat 32 k.val) =
    BitVec.ofNat 32 ((if b = true ∧ 0 < k.val ∧ k.val < 8 then 8 else if b = true ∧ k.val = 8 then 0 else 0) + k.val) := by
  decide

/-- Its code with its sign. -/
theorem code_at (b : Vec Ideal S18944x112x16 .i8) (t : Fin 16) :
    k0_pay11 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b (ix3 r G t) =
    BitVec.ofNat 32 ((if decide (y t.val < 0) = true ∧ 0 < kc (wR Q (y t.val)) (b (ix3 r G t)) then 8 else 0) + kc (wR Q (y t.val)) (b (ix3 r G t))) := by
  have hk := kc_le (wR Q (y t.val)) (wR_nonneg _ _) (b (ix3 r G t))
  have hp := kc_pos Q (y t.val) (b (ix3 r G t))
  have hadd : IntOp.addi (BitVec.ofNat 32 (kl (wR Q (y t.val)))) (BitVec.setWidth 32 (BitVec.ofBool (decide
      ((((b (ix3 r G t)).toNat : ℝ) + 1 / 2) * (1 / 256) < fr (wR Q (y t.val)))))) = BitVec.ofNat 32 (kc (wR Q (y t.val)) (b (ix3 r G t))) := by
    unfold kc
    rw [show (((b (ix3 r G t)).toNat : ℝ) + 1 / 2) / 256 = (((b (ix3 r G t)).toNat : ℝ) + 1 / 2) * (1 / 256) by ring]
    by_cases h : (((b (ix3 r G t)).toNat : ℝ) + 1 / 2) * (1 / 256) < fr (wR Q (y t.val))
    · rw [bt h, if_pos h]
      show BitVec.ofNat 32 _ + BitVec.ofNat 32 1 = _
      rw [BitVec.ofNat_add_ofNat]
    · rw [bf h, if_neg h]
      show BitVec.ofNat 32 _ + BitVec.ofNat 32 0 = _
      rw [BitVec.ofNat_add_ofNat]
  pointwise [k0_pay11]
  rw [pay7_at z s r G y hz Q hQ, pay10_at z s r G y hz Q hQ, pay3_at z s r G y hz Q hQ, byte_float, c_half, c_256th, ← EReal.coe_add, ← EReal.coe_mul]
  rw [show ∀ a b : ℝ, decide ((a : EReal) < (b : EReal)) = decide (a < b) from fun a b => by simp only [EReal.coe_lt_coe_iff], hadd]
  rw [show ∀ a : ℝ, decide ((a : EReal) < 0) = decide (a < 0) from fun a => by rw [← EReal.coe_zero]; simp only [EReal.coe_lt_coe_iff]]
  generalize kc (wR Q (y t.val)) (b (ix3 r G t)) = k at hk hp
  rw [show k = (⟨k, by omega⟩ : Fin 9).val from rfl, sign_code]
  congr 2
  by_cases h0 : 0 < k
  · have hq := hp h0
    have hd : ((if 0 < Q then y t.val / Q else 0) < 0) ↔ y t.val < 0 := by
      rw [if_pos hq, div_lt_iff₀ hq, zero_mul]
    simp only [hd]
    by_cases hy : y t.val < 0
    · simp [hy, h0, show k < 8 by omega]
    · simp [hy]
  · simp [h0]

end

end Cert.ReferenceIdeal.Hand

end
-- ==== Proof.RefOut.lean ====
/- The reference's results at an index, from its arguments. -/
module

public import proofs.«01_k».proof.Proof.RefAt
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Cert.ReferenceIdeal.Gen Cert.Quant
open Idealize.ShloMosaic.Pipeline (Dat Cfg Window)

section body

variable (z : Vec Ideal S18944x112x16 .f32) (b : Vec Ideal S18944x112x16 .i8) (s sx : EReal) (x : Vec Ideal S1792x3584 .bf16)

/-- The codes with their signs. -/
def Cd : IVec S18944x112x16 32 :=
  k0_pay11 (F := Ideal) (k0_pay3 z s) (k0_pay7 (k0_pay4 z s) (k0_pay5 z s) (k0_pay6 z s))
    (k0_pay10 (k0_pay4 z s) (k0_pay8 (k0_pay4 z s) (k0_pay5 z s) (k0_pay6 z s)) (k0_pay9 (k0_pay4 z s) (k0_pay5 z s) (k0_pay6 z s))) b

/-- What the body stores: the products, the pairs of codes and the scales. -/
def D5 : Vec Ideal S18944x3584 .f32 :=
  k0_pay17 (F := Ideal) s (k0_pay2 z s) (k0_pay11 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
    (k0_pay13 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
    (k0_pay14 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
    (k0_pay15 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
    (k0_pay16 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
    (FloatOps.ofBits (F := Ideal) FTy.f32 1077936128#32) x sx
@[inherit_doc D5] def D6 : Vec Ideal S18944x896 .i8 :=
  k0_pay18 (k0_pay12 (F := Ideal) (k0_pay3 z s) (k0_pay7 (k0_pay4 z s) (k0_pay5 z s) (k0_pay6 z s))
      (k0_pay10 (k0_pay4 z s) (k0_pay8 (k0_pay4 z s) (k0_pay5 z s) (k0_pay6 z s)) (k0_pay9 (k0_pay4 z s) (k0_pay5 z s) (k0_pay6 z s))) b)
@[inherit_doc D5] def D7 : Vec Ideal S18944x112 .fp8e4m3 := k0_pay2 (F := Ideal) z s

variable (y : Fin 18944 → Fin 112 → ℕ → ℝ) (hz : ∀ r G (x : Fin 16), (z (ix3 r G x) : EReal) = ((y r G x.val : ℝ) : EReal))

/-- Scale times tensor scale. -/
def Qof (a : ℝ) (s : EReal) : ℝ := (q_real a s).choose
theorem Qof_spec (a : ℝ) (s : EReal) : sbR a (((6 : ℝ) : EReal) * s) * s = ((Qof a s : ℝ) : EReal) := (q_real a s).choose_spec

/-- The code of token `t` of group `G` of row `r`. -/
def kR (r : Fin 18944) (G : Fin 112) (t : Fin 16) : ℕ := kc (wR (Qof (amax (y r G)) s) (y r G t.val)) (b (ix3 r G t))

theorem kR_le (r : Fin 18944) (G : Fin 112) (t : Fin 16) : kR b s y r G t < 8 := Nat.lt_succ_of_le (kc_le _ (wR_nonneg _ _) _)

theorem shl4 (v : BitVec 32) : IntOp.shli ArithUnit.vector v 4#32 = v <<< 4 := rfl

theorem sel_eq (k : ℕ) (hk : k < 8) (sg : Bool) :
    Scalar.select (IntOp.cmpi CmpIPredicate.sgt (IntOp.andi (BitVec.ofNat 32 ((if sg = true ∧ 0 < k then 8 else 0) + k)) 8#32) 0#32)
      (0 - magS (BitVec.ofNat 32 ((if sg = true ∧ 0 < k then 8 else 0) + k))) (magS (BitVec.ofNat 32 ((if sg = true ∧ 0 < k then 8 else 0) + k))) =
    (((if sg then -mag k else mag k) : ℝ) : EReal) := by
  rw [magS_eq k _ hk (by split_ifs <;> simp)]
  cases sg
  · interval_cases k <;> simp [Scalar.select, IntOp.cmpi, IntOp.andi]
  · interval_cases k <;> simp [Scalar.select, IntOp.cmpi, IntOp.andi, mag]

include hz

theorem D7_at (r : Fin 18944) (G : Fin 112) : D7 z s (ix2 r G) = sbR (amax (y r G)) (((6 : ℝ) : EReal) * s) :=
  scale_at z s r G (y r G) (hz r G)

theorem D6_at (r : Fin 18944) (k : Fin 896) : D6 z b s (ix2 r k) =
    packByte (cb (kR b s y r ⟨k.val / 8, by omega⟩ ⟨k.val % 8 * 2, by omega⟩) (decide (y r ⟨k.val / 8, by omega⟩ (k.val % 8 * 2) < 0)))
      (cb (kR b s y r ⟨k.val / 8, by omega⟩ ⟨k.val % 8 * 2 + 1, by omega⟩) (decide (y r ⟨k.val / 8, by omega⟩ (k.val % 8 * 2 + 1) < 0))) := by
  unfold D6
  pointwise [k0_pay18, k0_pay12]
  rw [code_at z s r _ (y r _) (hz r _) _ (Qof_spec _ s), code_at z s r _ (y r _) (hz r _) _ (Qof_spec _ s), shl4]
  exact (pack_cb ⟨_, kR_le b s y r ⟨k.val / 8, by omega⟩ ⟨k.val % 8 * 2, by omega⟩⟩
    ⟨_, kR_le b s y r ⟨k.val / 8, by omega⟩ ⟨k.val % 8 * 2 + 1, by omega⟩⟩ _ _).symm

theorem D5_at (r : Fin 18944) (n : Fin 3584) : D5 z b s sx x (ix2 r n) =
    (∑ q : Fin 1792, (((if decide (y r ⟨q.val / 16, by omega⟩ (q.val % 16) < 0) then
        -mag (kR b s y r ⟨q.val / 16, by omega⟩ ⟨q.val % 16, by omega⟩) else mag (kR b s y r ⟨q.val / 16, by omega⟩ ⟨q.val % 16, by omega⟩)) : ℝ) : EReal) *
      sbR (amax (y r ⟨q.val / 16, by omega⟩)) (((6 : ℝ) : EReal) * s) * x (ix2 q n)) * (s * sx) := by
  unfold D5
  pointwise [k0_pay17, k0_pay13, k0_pay14, k0_pay15, k0_pay16]
  refine congrArg (· * _) (Finset.sum_congr rfl fun q _ => ?_)
  have hc := code_at z s r ⟨q.val / 16, by omega⟩ (y r _) (hz r _) _ (Qof_spec _ s) b ⟨q.val % 16, by omega⟩
  have hs := sel_eq (kR b s y r ⟨q.val / 16, by omega⟩ ⟨q.val % 16, by omega⟩) (kR_le _ _ _ _ _ _) (decide (y r ⟨q.val / 16, by omega⟩ (q.val % 16) < 0))
  rw [← hs, scale_at z s r _ (y r _) (hz r _)]
  rw [show (BitVec.ofNat 32 ((if decide (y r ⟨q.val / 16, by omega⟩ (q.val % 16) < 0) = true ∧ 0 < kR b s y r ⟨q.val / 16, by omega⟩ ⟨q.val % 16, by omega⟩
    then 8 else 0) + kR b s y r ⟨q.val / 16, by omega⟩ ⟨q.val % 16, by omega⟩)) = _ from hc.symm]
  rfl

end body

variable (m : (ℓ : Loc nD τ sig) → Buf (Elt Ideal) ℓ) (c : Dev nD)

theorem idxR : ∀ t : Fin grid0.N, win0_0.index t = ![0, 0, 0] ∧ win0_1.index t = ![0, 0, 0] ∧ win0_2.index t = ![0] ∧ win0_3.index t = ![0] ∧
    win0_4.index t = ![0, 0] ∧ win0_5.index t = ![0, 0] ∧ win0_6.index t = ![0, 0] ∧ win0_7.index t = ![0, 0] := by
  decide +kernel

theorem bk0 (t : Fin cfg0.N) : (iblk m c 0 t : Vec Ideal S18944x112x16 .f32) = V m c main_v8 := by
  funext y
  blk_ext [iblk, V, idxR t]
theorem bk1 (t : Fin cfg0.N) : (iblk m c 1 t : Vec Ideal S18944x112x16 .i8) = V m c main_v10 := by
  funext y
  blk_ext [iblk, V, idxR t]
theorem bk2 (t : Fin cfg0.N) : (iblk m c 2 t : Vec Ideal S1 .f32) = V m c main_arg3 := by
  funext y
  blk_ext [iblk, V, idxR t]
theorem bk3 (t : Fin cfg0.N) : (iblk m c 3 t : Vec Ideal S1 .f32) = V m c main_arg4 := by
  funext y
  blk_ext [iblk, V, idxR t]
theorem bk4 (t : Fin cfg0.N) : (iblk m c 4 t : Vec Ideal S1792x3584 .bf16) = V m c main_arg5 := by
  funext y
  blk_ext [iblk, V, idxR t]

theorem out5 (t : Fin cfg0.N) : (outsAt0 m c t).1 = D5 (V m c main_v8) (V m c main_v10) ((V m c main_arg3 : Vec Ideal S1 .f32) (ix1 0)) ((V m c main_arg4 : Vec Ideal S1 .f32) (ix1 0)) (V m c main_arg5) := by
  rw [← bk0 m c t, ← bk1 m c t, ← bk2 m c t, ← bk3 m c t, ← bk4 m c t]
  unfold outsAt0
  dsimp only
  frame_out
  have e : ∀ h, Shape.Idx.first (s := S1) h = ix1 0 := by decide
  rw [e]
  show D5 ((ms0_0 t).view.read (Elt Ideal) ((hs0_0 t).unread (iblk m c 0 t))) ((ms0_1 t).view.read (Elt Ideal) ((hs0_1 t).unread (iblk m c 1 t)))
    ((ms0_2 t).view.read (Elt Ideal) ((hs0_2 t).unread (iblk m c 2 t)) (ix1 0)) ((ms0_3 t).view.read (Elt Ideal) ((hs0_3 t).unread (iblk m c 3 t)) (ix1 0))
    ((ms0_4 t).view.read (Elt Ideal) ((hs0_4 t).unread (iblk m c 4 t))) = _
  rw [(hs0_0 t).read_unread, (hs0_1 t).read_unread, (hs0_2 t).read_unread, (hs0_3 t).read_unread, (hs0_4 t).read_unread]

theorem out6 (t : Fin cfg0.N) : (outsAt0 m c t).2.1 = D6 (V m c main_v8) (V m c main_v10) ((V m c main_arg3 : Vec Ideal S1 .f32) (ix1 0)) := by
  rw [← bk0 m c t, ← bk1 m c t, ← bk2 m c t]
  unfold outsAt0
  dsimp only
  frame_out
  have e : ∀ h, Shape.Idx.first (s := S1) h = ix1 0 := by decide
  rw [e]
  show D6 ((ms0_0 t).view.read (Elt Ideal) ((hs0_0 t).unread (iblk m c 0 t))) ((ms0_1 t).view.read (Elt Ideal) ((hs0_1 t).unread (iblk m c 1 t)))
    ((ms0_2 t).view.read (Elt Ideal) ((hs0_2 t).unread (iblk m c 2 t)) (ix1 0)) = _
  rw [(hs0_0 t).read_unread, (hs0_1 t).read_unread, (hs0_2 t).read_unread]

theorem out7 (t : Fin cfg0.N) : (outsAt0 m c t).2.2 = D7 (V m c main_v8) ((V m c main_arg3 : Vec Ideal S1 .f32) (ix1 0)) := by
  rw [← bk0 m c t, ← bk2 m c t]
  unfold outsAt0
  dsimp only
  frame_out
  have e : ∀ h, Shape.Idx.first (s := S1) h = ix1 0 := by decide
  rw [e]
  show D7 ((ms0_0 t).view.read (Elt Ideal) ((hs0_0 t).unread (iblk m c 0 t)))
    ((ms0_2 t).view.read (Elt Ideal) ((hs0_2 t).unread (iblk m c 2 t)) (ix1 0)) = _
  rw [(hs0_0 t).read_unread, (hs0_2 t).read_unread]

theorem emb5 (t : Fin cfg0.N) (y : S18944x3584.Idx) : (((cfg0.win 5).blk t).view.emb y : S18944x3584.Idx) = y := by
  blk_ext [idxR t]
theorem emb6 (t : Fin cfg0.N) (y : S18944x896.Idx) : (((cfg0.win 6).blk t).view.emb y : S18944x896.Idx) = y := by
  blk_ext [idxR t]
theorem emb7 (t : Fin cfg0.N) (y : S18944x112.Idx) : (((cfg0.win 7).blk t).view.emb y : S18944x112.Idx) = y := by
  blk_ext [idxR t]

/-- The arrays of results. -/
theorem arr5 : (dats m 0 c).arrAt 5 cfg0.N = D5 (V m c main_v8) (V m c main_v10) ((V m c main_arg3 : Vec Ideal S1 .f32) (ix1 0)) ((V m c main_arg4 : Vec Ideal S1 .f32) (ix1 0)) (V m c main_arg5) := by
  refine (dats m 0 c).arrAt_eq_of_covers 5 _ (by decide +kernel) fun t hf y => ?_
  blk_simp
  rw [after0_5, out5]
  exact congrArg _ (emb5 t y).symm
@[inherit_doc arr5] theorem arr6 : (dats m 0 c).arrAt 6 cfg0.N = D6 (V m c main_v8) (V m c main_v10) ((V m c main_arg3 : Vec Ideal S1 .f32) (ix1 0)) := by
  refine (dats m 0 c).arrAt_eq_of_covers 6 _ (by decide +kernel) fun t hf y => ?_
  blk_simp
  rw [after0_6, out6]
  exact congrArg _ (emb6 t y).symm
@[inherit_doc arr5] theorem arr7 : (dats m 0 c).arrAt 7 cfg0.N = D7 (V m c main_v8) ((V m c main_arg3 : Vec Ideal S1 .f32) (ix1 0)) := by
  refine (dats m 0 c).arrAt_eq_of_covers 7 _ (by decide +kernel) fun t hf y => ?_
  blk_simp
  rw [after0_7, out7]
  exact congrArg _ (emb7 t y).symm

theorem lit_eq : ∀ t x : Fin 16, lit0 (S16x16.rowMajor (ix2 t x)) = if hsg t.val x.val then 0xBF800000#32 else 0x3F800000#32 := by
  decide +kernel

theorem c_one : Ideal.ofBits .f32 0x3F800000#32 = ((1 : ℝ) : EReal) := by
  simp [Ideal.ofBits, Ideal.ieee, -EReal.coe_mul]; norm_num
theorem c_neg : Ideal.ofBits .f32 0xBF800000#32 = ((-1 : ℝ) : EReal) := by
  simp [Ideal.ofBits, Ideal.ieee, -EReal.coe_mul]; norm_num
theorem c_quarter : Ideal.ofBits .f32 0x3E800000#32 = ((1 / 4 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_eq (f : Fin 16 → EReal) (g : Fin 16 → ℝ) (h : ∀ x, f x = ((g x : ℝ) : EReal)) : ∑ x, f x = ((∑ x, g x : ℝ) : EReal) := by
  rw [coe_sum]
  exact Finset.sum_congr rfl fun x _ => h x

/-- The rotated tokens. -/
theorem z_at (dy : Fin 7 → Fin 256 → Fin 18944 → ℝ) (e : Fin 16 → ℝ)
    (hd : ∀ a b r, ((m ((c.tc : Thread nD τ).loc main_arg0) : Vec Ideal S7x256x18944 .bf16) (ix3 a b r) : EReal) = ((dy a b r : ℝ) : EReal))
    (he : ∀ x, ((m ((c.tc : Thread nD τ).loc main_arg1) : Vec Ideal S16 .f32) (ix1 x) : EReal) = ((e x : ℝ) : EReal))
    (r : Fin 18944) (G : Fin 112) (t : Fin 16) : ((V m c main_v8 : Vec Ideal S18944x112x16 .f32) (ix3 r G t) : EReal) =
      ((zeta (fun x => dy ⟨G.val / 16, by omega⟩ ⟨G.val % 16 * 16 + x.val, by omega⟩ r) e t.val : ℝ) : EReal) := by
  entry_read
  pointwise
  unfold zeta
  refine sum_eq _ _ fun x => ?_
  have h1 := hd ⟨G.val / 16, by omega⟩ ⟨G.val % 16 * 16 + x.val, by omega⟩ r
  have h2 := he x
  rw [EReal.coe_mul, EReal.coe_mul, EReal.coe_mul, ← h1, ← h2, ← c_quarter, lit_eq]
  cases hsg t.val x.val
  · rw [if_neg (by decide), if_neg (by decide), c_one]
  · rw [if_pos rfl, if_pos rfl, c_neg]

/-- The random bytes. -/
theorem b_at (r : Fin 18944) (G : Fin 112) (t : Fin 16) : (V m c main_v10 : Vec Ideal S18944x112x16 .i8) (ix3 r G t) =
    (m ((c.tc : Thread nD τ).loc main_arg2) : Vec Ideal S7x256x18944 .i8) (ix3 ⟨G.val / 16, by omega⟩ ⟨G.val % 16 * 16 + t.val, by omega⟩ r) := by
  entry_read
  pointwise

end Cert.ReferenceIdeal.Hand

end
-- ==== Proof.Equal.lean ====
/- The kernel's results are the reference's: the scales, the codes and the products, at every index. -/
module

public import proofs.«01_k».proof.Proof.Scal
public import proofs.«01_k».proof.Proof.RefOut
public import proofs.«01_k».proof.Proof.Gen.ReferenceIdeal.Value

@[expose] public section

set_option maxRecDepth 16384

noncomputable section

namespace Cert.Same

open Idealize.ShloMosaic Idealize.ShloMosaic.TcCoe Idealize.ShloMosaic.Tactic
open Cert.Quant Cert.KernelIdeal.Hand

/-- The sixteen tokens of group `G` of column `r`. -/
def grp (dy : Fin 7 → Fin 256 → Fin 18944 → ℝ) (r : Fin 18944) (G : Fin 112) : Fin 16 → ℝ :=
  fun x => dy ⟨G.val / 16, by omega⟩ ⟨G.val % 16 * 16 + x.val, by omega⟩ r

/-- They, rotated. -/
def rot (dy : Fin 7 → Fin 256 → Fin 18944 → ℝ) (e : Fin 16 → ℝ) (r : Fin 18944) (G : Fin 112) (t : ℕ) : ℝ :=
  zeta (grp dy r G) e t

/-- A factor that is a nonnegative real comes out of a sum. -/
theorem sum_mul_real {n : ℕ} (f : Fin n → EReal) (a : ℝ) (h : 0 ≤ a) : ∑ q, f q * (a : EReal) = (∑ q, f q) * (a : EReal) := by
  have key : ∀ s : Finset (Fin n), ∑ q ∈ s, f q * (a : EReal) = (∑ q ∈ s, f q) * (a : EReal) := by
    intro s
    induction s using Finset.induction_on with
    | empty => simp
    | insert b s hb ih =>
      rw [Finset.sum_insert hb, Finset.sum_insert hb, ih,
        EReal.right_distrib_of_nonneg_of_ne_top (EReal.coe_nonneg.2 h) (EReal.coe_ne_top a)]
  exact key _

/-- The order in which the kernel adds the tokens is a permutation. -/
theorem tok_bij : Function.Bijective tok := by
  refine Finite.injective_iff_bijective.1 fun p q h => ?_
  have hv : 16 * gq p.val + tq p.val = 16 * gq q.val + tq q.val := congrArg Fin.val h
  have back : ∀ u : Fin 1792, u.val = gq u.val / 8 * 128 + tq u.val / 8 * 64 + tq u.val % 2 * 32 + gq u.val % 8 * 4 + tq u.val % 8 / 2 := by
    intro u
    have b1 : gq u.val / 8 = u.val / 128 := by unfold gq; omega
    have b2 : gq u.val % 8 = u.val % 32 / 4 := by unfold gq; omega
    have b3 : tq u.val / 8 = u.val % 128 / 64 := by unfold tq; omega
    have b4 : tq u.val % 2 = u.val % 64 / 32 := by unfold tq; omega
    have digits : ∀ a b c : ℕ, b < 4 → c < 2 → (a * 8 + b * 2 + c) % 8 / 2 = b := by omega
    have b5 : tq u.val % 8 / 2 = u.val % 4 := by unfold tq; exact digits _ _ _ (by omega) (by omega)
    have d1 : u.val % 128 = u.val % 128 / 64 * 64 + u.val % 64 := by omega
    have d2 : u.val % 64 = u.val % 64 / 32 * 32 + u.val % 32 := by omega
    have d3 : u.val % 32 = u.val % 32 / 4 * 4 + u.val % 4 := by omega
    rw [b1, b2, b3, b4, b5]
    omega
  have hp : tq p.val < 16 := by unfold tq; omega
  have hq : tq q.val < 16 := by unfold tq; omega
  have eg : gq p.val = gq q.val := by omega
  have et : tq p.val = tq q.val := by omega
  refine Fin.ext ((back p).trans ?_)
  rw [eg, et]
  exact (back q).symm

/-- One term of the product. -/
theorem term_eq (a : ℝ) (b x : EReal) : (((a / 64 : ℝ) : EReal) * b) * (x * ((1 / 64 : ℝ) : EReal)) =
    ((a : EReal) * b * x) * ((1 / 4096 : ℝ) : EReal) := by
  have h : ((1 / 4096 : ℝ) : EReal) = ((1 / 64 : ℝ) : EReal) * ((1 / 64 : ℝ) : EReal) := by
    rw [← EReal.coe_mul]; norm_num
  rw [show a / 64 = a * (1 / 64) from by ring, EReal.coe_mul, h]
  ac_rfl

/-- The scale of the whole product. -/
theorem scale_eq (S a b : EReal) : S * ((1 / 4096 : ℝ) : EReal) * (a * b * ((4096 : ℝ) : EReal)) = S * (a * b) := by
  have h : ((1 / 4096 : ℝ) : EReal) * ((4096 : ℝ) : EReal) = 1 := by
    rw [← EReal.coe_mul]; norm_num
  calc S * ((1 / 4096 : ℝ) : EReal) * (a * b * ((4096 : ℝ) : EReal))
      = S * (a * b) * (((1 / 4096 : ℝ) : EReal) * ((4096 : ℝ) : EReal)) := by ac_rfl
    _ = _ := by rw [h, mul_one]

section kernel

variable (m : (ℓ : Loc Cert.KernelIdeal.nD Cert.KernelIdeal.τ Cert.KernelIdeal.sig) → Buf (Elt Ideal) ℓ) (c : Dev Cert.KernelIdeal.nD)
  (dy : Fin 7 → Fin 256 → Fin 18944 → ℝ) (e : Fin 16 → ℝ)

/-- The random byte of a token. -/
def rnd (r : Fin 18944) (G : Fin 112) (t : Fin 16) : BitVec 8 :=
  aB m c (ix3 ⟨G.val / 16, by omega⟩ ⟨G.val % 16 * 16 + t.val, by omega⟩ r)

/-- The code of a token. -/
def kk (r : Fin 18944) (G : Fin 112) (t : Fin 16) : ℕ :=
  kc (wR (Cert.ReferenceIdeal.Hand.Qof (amax (rot dy e r G)) (aS m c (ix1 0))) (rot dy e r G t.val)) (rnd m c r G t)

theorem kk_le (r : Fin 18944) (G : Fin 112) (t : Fin 16) : kk m c dy e r G t ≤ 7 := kc_le _ (wR_nonneg _ _) _

/-- The code of a token with its sign, as a real. -/
def vk (r : Fin 18944) (G : Fin 112) (t : Fin 16) : ℝ :=
  if decide (rot dy e r G t.val < 0) then -mag (kk m c dy e r G t) else mag (kk m c dy e r G t)

variable (hd : ∀ a b r, (aY m c (ix3 a b r) : EReal) = ((dy a b r : ℝ) : EReal))
  (he : ∀ x, (aE m c (ix1 x) : EReal) = ((e x : ℝ) : EReal)) (h1 : ∀ x, e x = 1 ∨ e x = -1)

include hd in
theorem yG_eq (r : Fin 18944) (G : Fin 112) : yG m c r G.val = fun t => ((grp dy r G t : ℝ) : EReal) := by
  funext t
  unfold yG grp
  rw [vY_at, ← hd]
  congr 2 <;> (apply Fin.ext; simp only [Fin.ofNat]; omega)

theorem vB_eq (r : Fin 18944) (G : Fin 112) (t : Fin 16) : vB m c (ix2 (Fin.ofNat 1792 (16 * G.val + t.val)) r) = rnd m c r G t := by
  unfold rnd
  rw [vB_at]
  congr 2 <;> (apply Fin.ext; simp only [Fin.ofNat]; omega)

include hd he h1

theorem rG_eq (r : Fin 18944) (G : Fin 112) : rG m c r G.val = sbR (amax (rot dy e r G)) (((6 : ℝ) : EReal) * aS m c (ix1 0)) := by
  unfold rG
  rw [yG_eq m c dy hd, sgE_eq m c e he h1, vS_1, rk_eq]
  rfl

theorem fG_eq (r : Fin 18944) (G : Fin 112) (t : Fin 16) : fG m c r G.val t.val =
    cb (kk m c dy e r G t) (decide (rot dy e r G t.val < 0)) := by
  unfold fG
  rw [yG_eq m c dy hd, sgE_eq m c e he h1, vS_0, vS_1, vB_eq,
    fk_eq _ e _ _ t.val t.isLt _ (Cert.ReferenceIdeal.Hand.Qof_spec (amax (zeta (grp dy r G) e)) (aS m c (ix1 0)))]
  rfl

theorem fG_eq' (r : Fin 18944) (G t : ℕ) (hG : G < 112) (ht : t < 16) : fG m c r G t =
    cb (kk m c dy e r ⟨G, hG⟩ ⟨t, ht⟩) (decide (rot dy e r ⟨G, hG⟩ t < 0)) := fG_eq m c dy e hd he h1 r ⟨G, hG⟩ ⟨t, ht⟩

/-- The kernel's products. -/
theorem A7_eq (r : Fin 18944) (n : Fin 3584) : A7 m c (ix2 r n) =
    (∑ q : Fin 1792, ((vk m c dy e r ⟨q.val / 16, by omega⟩ ⟨q.val % 16, by omega⟩ : ℝ) : EReal) *
      sbR (amax (rot dy e r ⟨q.val / 16, by omega⟩)) (((6 : ℝ) : EReal) * aS m c (ix1 0)) * aX m c (ix2 q n)) *
      (aS m c (ix1 0) * aT m c (ix1 0)) := by
  show (∑ q : Fin 1792, (Ideal.e4m3fn (fG m c r (gq q.val) (tq q.val)) * rG m c r (gq q.val)) * vX m c (ix2 q n)) * vS m c (ix1 2) = _
  rw [vS_2]
  refine Eq.trans ?_ (scale_eq _ _ _)
  rw [← sum_mul_real _ _ (by norm_num)]
  refine congrArg (· * _) ?_
  refine Eq.trans ?_ (tok_bij.sum_comp _)
  refine Finset.sum_congr rfl fun q _ => ?_
  have hg : gq q.val < 112 := by unfold gq; omega
  have ht : tq q.val < 16 := by unfold tq; omega
  have eg : (⟨(tok q).val / 16, by omega⟩ : Fin 112) = ⟨gq q.val, hg⟩ := Fin.ext (by show (16 * gq q.val + tq q.val) / 16 = gq q.val; omega)
  have et : (⟨(tok q).val % 16, by omega⟩ : Fin 16) = ⟨tq q.val, ht⟩ := Fin.ext (by show (16 * gq q.val + tq q.val) % 16 = tq q.val; omega)
  rw [eg, et, ← term_eq, vX_at, fG_eq' m c dy e hd he h1 r _ _ hg ht, e4m3fn_cb _ (kk_le m c dy e r ⟨gq q.val, hg⟩ ⟨tq q.val, ht⟩),
    show rG m c r (gq q.val) = _ from rG_eq m c dy e hd he h1 r ⟨gq q.val, hg⟩]
  rfl

end kernel

section both

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (dy : Fin 7 → Fin 256 → Fin 18944 → ℝ) (e : Fin 16 → ℝ)
  (hd : ∀ a b r, (aY m c (ix3 a b r) : EReal) = ((dy a b r : ℝ) : EReal))
  (he : ∀ x, (aE m c (ix1 x) : EReal) = ((e x : ℝ) : EReal)) (h1 : ∀ x, e x = 1 ∨ e x = -1)
  (a0 : m' ((c.tc : Thread Cert.ReferenceIdeal.nD Cert.ReferenceIdeal.τ).loc Cert.ReferenceIdeal.main_arg0) = aY m c)
  (a1 : m' ((c.tc : Thread Cert.ReferenceIdeal.nD Cert.ReferenceIdeal.τ).loc Cert.ReferenceIdeal.main_arg1) = aE m c)
  (a2 : m' ((c.tc : Thread Cert.ReferenceIdeal.nD Cert.ReferenceIdeal.τ).loc Cert.ReferenceIdeal.main_arg2) = aB m c)
  (a3 : m' ((c.tc : Thread Cert.ReferenceIdeal.nD Cert.ReferenceIdeal.τ).loc Cert.ReferenceIdeal.main_arg3) = aS m c)
  (a4 : m' ((c.tc : Thread Cert.ReferenceIdeal.nD Cert.ReferenceIdeal.τ).loc Cert.ReferenceIdeal.main_arg4) = aT m c)
  (a5 : m' ((c.tc : Thread Cert.ReferenceIdeal.nD Cert.ReferenceIdeal.τ).loc Cert.ReferenceIdeal.main_arg5) = aX m c)

include hd he a0 a1 in
theorem hz (r : Fin 18944) (G : Fin 112) (t : Fin 16) :
    ((Cert.ReferenceIdeal.Gen.V m' c Cert.ReferenceIdeal.main_v8 : Vec Ideal Cert.ReferenceIdeal.S18944x112x16 .f32) (ix3 r G t) : EReal) =
      ((rot dy e r G t.val : ℝ) : EReal) :=
  Cert.ReferenceIdeal.Hand.z_at m' c dy e (fun a b r => by rw [a0]; exact hd a b r) (fun x => by rw [a1]; exact he x) r G t

include a2 in
theorem kR_eq (r : Fin 18944) (G : Fin 112) (t : Fin 16) :
    Cert.ReferenceIdeal.Hand.kR (Cert.ReferenceIdeal.Gen.V m' c Cert.ReferenceIdeal.main_v10) (aS m c (ix1 0)) (rot dy e) r G t = kk m c dy e r G t := by
  unfold Cert.ReferenceIdeal.Hand.kR kk rnd
  rw [Cert.ReferenceIdeal.Hand.b_at, a2]

include a3 in
theorem s_eq : (Cert.ReferenceIdeal.Gen.V m' c Cert.ReferenceIdeal.main_arg3 : Vec Ideal Cert.ReferenceIdeal.S1 .f32) = aS m c := by
  rw [← a3]; exact Cert.ReferenceIdeal.Gen.V_main_arg3 m' c
include a4 in
theorem t_eq : (Cert.ReferenceIdeal.Gen.V m' c Cert.ReferenceIdeal.main_arg4 : Vec Ideal Cert.ReferenceIdeal.S1 .f32) = aT m c := by
  rw [← a4]; exact Cert.ReferenceIdeal.Gen.V_main_arg4 m' c
include a5 in
theorem x_eq : (Cert.ReferenceIdeal.Gen.V m' c Cert.ReferenceIdeal.main_arg5 : Vec Ideal Cert.ReferenceIdeal.S1792x3584 .bf16) = aX m c := by
  rw [← a5]; exact Cert.ReferenceIdeal.Gen.V_main_arg5 m' c

include hd he h1 a0 a1 a3 in
/-- The scales agree. -/
theorem same9 : (Cert.ReferenceIdeal.Gen.dats m' 0 c).arrAt 7 Cert.ReferenceIdeal.cfg0.N = A9 m c := by
  rw [Cert.ReferenceIdeal.Hand.arr7, s_eq m m' c a3]
  funext y
  obtain ⟨r, G, rfl⟩ : ∃ (r : Fin 18944) (G : Fin 112), y = ix2 r G := ⟨y 0, y 1, eq_ix2 y⟩
  exact (Cert.ReferenceIdeal.Hand.D7_at _ _ (rot dy e) (hz m m' c dy e hd he a0 a1) r G).trans (rG_eq m c dy e hd he h1 r G).symm

include hd he h1 a0 a1 a2 a3 in
/-- The codes agree. -/
theorem same8 : (Cert.ReferenceIdeal.Gen.dats m' 0 c).arrAt 6 Cert.ReferenceIdeal.cfg0.N = A8 m c := by
  rw [Cert.ReferenceIdeal.Hand.arr6, s_eq m m' c a3]
  funext y
  obtain ⟨r, k, rfl⟩ : ∃ (r : Fin 18944) (k : Fin 896), y = ix2 r k := ⟨y 0, y 1, eq_ix2 y⟩
  refine (Cert.ReferenceIdeal.Hand.D6_at _ _ _ (rot dy e) (hz m m' c dy e hd he a0 a1) r k).trans ?_
  show _ = packByte (fG m c r (k.val / 8) (2 * (k.val % 8))) (fG m c r (k.val / 8) (2 * (k.val % 8) + 1))
  rw [kR_eq m m' c dy e a2, kR_eq m m' c dy e a2, Nat.mul_comm 2 (k.val % 8),
    fG_eq' m c dy e hd he h1 r (k.val / 8) (k.val % 8 * 2) (by omega) (by omega),
    fG_eq' m c dy e hd he h1 r (k.val / 8) (k.val % 8 * 2 + 1) (by omega) (by omega)]

include hd he h1 a0 a1 a2 a3 a4 a5 in
/-- The products agree. -/
theorem same7 : (Cert.ReferenceIdeal.Gen.dats m' 0 c).arrAt 5 Cert.ReferenceIdeal.cfg0.N = A7 m c := by
  rw [Cert.ReferenceIdeal.Hand.arr5, s_eq m m' c a3, t_eq m m' c a4, x_eq m m' c a5]
  funext y
  obtain ⟨r, n, rfl⟩ : ∃ (r : Fin 18944) (n : Fin 3584), y = ix2 r n := ⟨y 0, y 1, eq_ix2 y⟩
  refine (Cert.ReferenceIdeal.Hand.D5_at _ _ _ _ _ (rot dy e) (hz m m' c dy e hd he a0 a1) r n).trans ?_
  rw [A7_eq m c dy e hd he h1 r n]
  refine congrArg (· * _) (Finset.sum_congr rfl fun q _ => ?_)
  rw [kR_eq m m' c dy e a2]
  rfl

end both

end Cert.Same

end
-- ==== Proof.Given.lean ====
/- What the precondition says: every gradient is a real number and every sign is one or minus one. -/
module

public import proofs.«01_k».proof.Pre_finite_dy_and_signs
public import proofs.«01_k».proof.Proof.Equal
public import Idealize.ShloMosaic.Lib.ReduceAll

@[expose] public section

set_option maxRecDepth 16384

noncomputable section

namespace Cert.Given

open Idealize.ShloMosaic Idealize.ShloMosaic.TcCoe Idealize.ShloMosaic.Tactic
open Cert.Quant Cert.KernelIdeal.Hand

instance facts : Cert.Pre_finite_dy_and_signs.Facts where
  bitsLt_bf16_f32 := by decide
  bcast_S_S7x256x18944 := by decide +kernel
  reducesTo_S7x256x18944_S_d0_1_2 := by decide +kernel
  h_S_ := by decide
  bcast_S_S16 := by decide +kernel
  reducesTo_S16_S_d0 := by decide +kernel

instance : Subsingleton Cert.Pre_finite_dy_and_signs.S_.Idx := ⟨fun a b => funext fun i => i.elim0⟩

theorem c_inf : Ideal.ofBits .f32 0x7F800000#32 = (⊤ : EReal) := by
  simp [Ideal.ofBits, Ideal.ieee]

theorem real_of_abs_lt (x : EReal) (h : max x (-x) < ⊤) : x = ((x.toReal : ℝ) : EReal) := by
  refine (EReal.coe_toReal ?_ ?_).symm
  · rintro rfl; simp at h
  · rintro rfl; simp at h

theorem sign_of_abs (x : EReal) (h : max x (-x) = ((1 : ℝ) : EReal)) : x = ((x.toReal : ℝ) : EReal) ∧ (x.toReal = 1 ∨ x.toReal = -1) := by
  have hx := real_of_abs_lt x (by rw [h]; exact EReal.coe_lt_top 1)
  refine ⟨hx, ?_⟩
  rw [hx, ← EReal.coe_neg, coe_max, EReal.coe_eq_coe_iff] at h
  rcases max_choice x.toReal (-x.toReal) with h' | h' <;> rw [h'] at h
  · exact .inl h
  · exact .inr (by linarith)

variable (m : (ℓ : Loc Cert.KernelIdeal.nD Cert.KernelIdeal.τ Cert.KernelIdeal.sig) → Buf (Elt Ideal) ℓ) (c : Dev Cert.KernelIdeal.nD)

theorem reals (h : Cert.Pre_finite_dy_and_signs.fn (F := Ideal) (aY m c) (aE m c) (aB m c) (aS m c) (aT m c) (aX m c) = fun _ => 1#1) :
    ∃ (dy : Fin 7 → Fin 256 → Fin 18944 → ℝ) (e : Fin 16 → ℝ), (∀ a b r, (aY m c (ix3 a b r) : EReal) = ((dy a b r : ℝ) : EReal)) ∧
      (∀ x, (aE m c (ix1 x) : EReal) = ((e x : ℝ) : EReal)) ∧ (∀ x, e x = 1 ∨ e x = -1) := by
  have h0 := congrFun h (fun i => i.elim0)
  unfold Cert.Pre_finite_dy_and_signs.fn at h0
  dsimp only at h0
  have both : ∀ p q : BitVec 1, p &&& q = 1#1 → p = 1#1 ∧ q = 1#1 := by decide
  obtain ⟨hy, hs⟩ := both _ _ h0
  have hy' := fun a b r => Host.reduce_andi_all _ _ _ _ _ hy (ix3 a b r)
  have hs' := fun x => Host.reduce_andi_all _ _ _ _ _ hs (ix1 x)
  have one : ∀ b : Bool, BitVec.ofBool b = 1#1 → b = true := by decide
  have hY : ∀ a b r, (aY m c (ix3 a b r) : EReal) = (((aY m c (ix3 a b r) : EReal).toReal : ℝ) : EReal) := fun a b r => by
    refine real_of_abs_lt _ ?_
    have := of_decide_eq_true (one _ (hy' a b r))
    rw [← c_inf]
    exact this
  have hE : ∀ x, (aE m c (ix1 x) : EReal) = (((aE m c (ix1 x) : EReal).toReal : ℝ) : EReal) ∧
      ((aE m c (ix1 x) : EReal).toReal = 1 ∨ (aE m c (ix1 x) : EReal).toReal = -1) := fun x => by
    refine sign_of_abs _ ?_
    have := of_decide_eq_true (one _ (hs' x))
    rw [← Cert.ReferenceIdeal.Hand.c_one]
    exact this
  exact ⟨fun a b r => (aY m c (ix3 a b r) : EReal).toReal, fun x => (aE m c (ix1 x) : EReal).toReal, hY, fun x => (hE x).1, fun x => (hE x).2⟩

end Cert.Given

end
-- ==== Proof.KTrips.lean ====
/- One trip of each counted loop of the kernel's body, run once at a symbolic trip: what it reads at its
   contents, what it writes at any, and the pieces it leaves. -/
module

public import proofs.«01_k».proof.Proof.Gen.Kernel.Frame
public import proofs.«01_k».proof.Proof.Gen.Kernel.Skeleton

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)
  (v0 : BitVec 32) (v12 v16 v20 v24 v28 v32 v36 v40 v44 v48 v52 v56 v60 v64 v68 v72 : F .f32) (v73 v74 : Elt F .f32)

/-- What one trip of `k0_t1_loop` leaves in the three scratch buffers, as pieces, and the run that finds them. -/
def trip1 (k0_h1 : k0_cond1 i = 1#1) (k : Fin k0_t1_loop.trips) (X3 : BufTy.Contents (Elt F) arg3.view.ty) (X4 : BufTy.Contents (Elt F) arg4.view.ty) (X5 : BufTy.Contents (Elt F) arg5.view.ty) (X6 : BufTy.Contents (Elt F) arg6.view.ty) :
    Σ' (L11 : List (View.Piece (Elt F) S2x256x1792 .bf16)) (L12 : List (View.Piece (Elt F) S2x224x128 .i32)) , { L13 : List (View.Piece (Elt F) S2x128x128 .f32) // ∀ (E : Set ℕ) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k PUnit.unit)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)))) } := by
  refine ⟨?_, ?_, ?_, fun E f11 f12 f13 => ?run⟩
  case run =>
    unfold k0_t1_body
    iintro ⟨H3, H4, H5, H6, H11, H12, H13⟩
    sl_exec
    sl_step
    sl_close

/-- What one trip of `k0_t3_loop` leaves in the three scratch buffers, as pieces, and the run that finds them. -/
def trip3 (k0_h2 : k0_cond2 i = 1#1) (j : Fin k0_t2_loop.trips) (v106 : BitVec 32) (k : Fin k0_t3_loop.trips) (X3 : BufTy.Contents (Elt F) arg3.view.ty) (X4 : BufTy.Contents (Elt F) arg4.view.ty) (X5 : BufTy.Contents (Elt F) arg5.view.ty) (X6 : BufTy.Contents (Elt F) arg6.view.ty) :
    Σ' (L11 : List (View.Piece (Elt F) S2x256x1792 .bf16)) (L12 : List (View.Piece (Elt F) S2x224x128 .i32)) , { L13 : List (View.Piece (Elt F) S2x128x128 .f32) // ∀ (E : Set ℕ) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k PUnit.unit)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)))) } := by
  refine ⟨?_, ?_, ?_, fun E f11 f12 f13 => ?run⟩
  case run =>
    unfold k0_t3_body
    iintro ⟨H3, H4, H5, H6, H11, H12, H13⟩
    sl_exec
    sl_step
    sl_close

end Cert.Kernel.Hand

end
-- ==== Proof.KLoops.lean ====
/- The counted loops of the kernel's body as invariants: a relation on the contents of the scratch buffers that one
   unit of quantisation carries from its number to the next is carried through the whole loop. -/
module

public import proofs.«01_k».proof.Proof.Gen.Kernel.Frame
public import proofs.«01_k».proof.Proof.KTrips

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)
  (v0 : BitVec 32) (v12 v16 v20 v24 v28 v32 v36 v40 v44 v48 v52 v56 v60 v64 v68 v72 : F .f32) (v73 v74 : Elt F .f32)

/-- The first step's loop over the units. -/
@[reducible] def inv1 (E : Set ℕ) (k0_h1 : k0_cond1 i = 1#1) (X3 : BufTy.Contents (Elt F) arg3.view.ty) (X4 : BufTy.Contents (Elt F) arg4.view.ty) (X5 : BufTy.Contents (Elt F) arg5.view.ty) (X6 : BufTy.Contents (Elt F) arg6.view.ty) (R : ℕ → BufTy.Contents (Elt F) arg11.view.ty → BufTy.Contents (Elt F) arg12.view.ty → BufTy.Contents (Elt F) arg13.view.ty → Prop)
    (hR : ∀ (k : Fin k0_t1_loop.trips) (f11 : BufTy.Contents (Elt F) arg11.view.ty) (f12 : BufTy.Contents (Elt F) arg12.view.ty) (f13 : BufTy.Contents (Elt F) arg13.view.ty), R k.val f11 f12 f13 →
      R (k.val + 1) (arg11.view.writes (Elt F) f11 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).1)
        (arg12.view.writes (Elt F) f12 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.1)
        (arg13.view.writes (Elt F) f13 (trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.2.1)) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1) where
  inv := fun k _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R k f11 f12 f13⌝)
  step := fun k acc => by
    iintro ⟨H3, H4, H5, H6, %f11, %f12, %f13, H11, H12, H13, %h⟩
    iapply (wp_wand_r Idealize.ShloMosaic.frame (wpE (defs₀ (F := F)) Variants.none (c : Thread nD τ) none) E)
    isplitl [H3 H4 H5 H6 H11 H12 H13]
    · iapply ((trip1 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h1 k X3 X4 X5 X6).2.2.2 E f11 f12 f13)
      isplitl [H3]; · iexact H3
      isplitl [H4]; · iexact H4
      isplitl [H5]; · iexact H5
      isplitl [H6]; · iexact H6
      isplitl [H11]; · iexact H11
      isplitl [H12]; · iexact H12
      iexact H13
    iintro %_ ⟨H3, H4, H5, H6, H11, H12, H13⟩
    isplitl [H3]; · iexact H3
    isplitl [H4]; · iexact H4
    isplitl [H5]; · iexact H5
    isplitl [H6]; · iexact H6
    iexists _, _, _
    isplitl [H11]; · iexact H11
    isplitl [H12]; · iexact H12
    isplitl [H13]; · iexact H13
    ipureintro; exact hR k f11 f12 f13 h

/-- A later step's inner loop over the two units of one column block. -/
@[reducible] def inv3 (E : Set ℕ) (k0_h2 : k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (j : Fin k0_t2_loop.trips) (v106 : BitVec 32) (R : ℕ → BufTy.Contents (Elt F) arg11.view.ty → BufTy.Contents (Elt F) arg12.view.ty → BufTy.Contents (Elt F) arg13.view.ty → Prop)
    (hR : ∀ (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.2.1)) :
    Idealize.ShloMosaic.LoopInv (M := 𝕄) Idealize.ShloMosaic.frame (wpE (defs₀ (F := F)) Variants.none (c : Thread nD τ) none) E
      k0_t3_loop.lb k0_t3_loop.ub k0_t3_loop.st (k0_t3_ok i k0_h2) () (k0_t3_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106) where
  inv := fun k _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ f11 f12 f13, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R (2 * j.val + k) f11 f12 f13⌝)
  step := fun k acc => by
    iintro ⟨H3, H4, H5, H6, %f11, %f12, %f13, H11, H12, H13, %h⟩
    iapply (wp_wand_r Idealize.ShloMosaic.frame (wpE (defs₀ (F := F)) Variants.none (c : Thread nD τ) none) E)
    isplitl [H3 H4 H5 H6 H11 H12 H13]
    · iapply ((trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j v106 k X3 X4 X5 X6).2.2.2 E f11 f12 f13)
      isplitl [H3]; · iexact H3
      isplitl [H4]; · iexact H4
      isplitl [H5]; · iexact H5
      isplitl [H6]; · iexact H6
      isplitl [H11]; · iexact H11
      isplitl [H12]; · iexact H12
      iexact H13
    iintro %_ ⟨H3, H4, H5, H6, H11, H12, H13⟩
    isplitl [H3]; · iexact H3
    isplitl [H4]; · iexact H4
    isplitl [H5]; · iexact H5
    isplitl [H6]; · iexact H6
    iexists _, _, _
    isplitl [H11]; · iexact H11
    isplitl [H12]; · iexact H12
    isplitl [H13]; · iexact H13
    ipureintro; exact hR k f11 f12 f13 h

/-- A later step's outer loop: one column block of the products from the other slot, then two units. -/
@[reducible] def inv2 (E : Set ℕ) (k0_h2 : k0_cond2 i = 1#1) (v75 : Elt F .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (R : ℕ → BufTy.Contents (Elt F) arg11.view.ty → BufTy.Contents (Elt F) arg12.view.ty → BufTy.Contents (Elt F) arg13.view.ty → Prop) (R8 : ℕ → BufTy.Contents (Elt F) arg8.view.ty → Prop)
    (hR : ∀ (j : Fin k0_t2_loop.trips) (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 k0_h2 j (Scalar.addi 0#32 (Scalar.muli (Scf.iv 0#32 1#32 j) 1#32)) k X3 X4 X5 X6).2.2.1))
    (hR8 : ∀ (j : Fin k0_t2_loop.trips) (f8 : BufTy.Contents (Elt F) arg8.view.ty) (f11 : BufTy.Contents (Elt F) arg11.view.ty) (f12 : BufTy.Contents (Elt F) arg12.view.ty) (f13 : BufTy.Contents (Elt F) arg13.view.ty), R8 j.val f8 → R (2 * j.val) f11 f12 f13 →
      R8 (j.val + 1) (arg8.view.writes (Elt F) f8
        [⟨(Rect.unit (s := S256x3584) (k0_off10 j) S256x512.size (k0_off10_inb i j k0_h2)),
          k0_pay1 v75 (View.readAt (Elt F) arg11.view (Rect.unit (s := S2x256x1792) (k0_off8 i) S1x256x1792.size (k0_off8_inb i k0_h2)).toLoadRect f11)
            (View.readAt (Elt F) arg7.view (Rect.unit (s := S1792x3584) (k0_off9 j) S1792x512.size (k0_off9_inb i j k0_h2)).toLoadRect X7)⟩])) :
    Idealize.ShloMosaic.LoopInv (M := 𝕄) Idealize.ShloMosaic.frame (wpE (defs₀ (F := F)) Variants.none (c : Thread nD τ) none) E
      k0_t2_loop.lb k0_t2_loop.ub k0_t2_loop.st (k0_t2_ok i k0_h2) () (k0_t2_body (F := F) i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 v75 k0_h2) where
  inv := fun j _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f11 f12 f13, (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R8 j f8 ∧ R (2 * j) f11 f12 f13⌝)
  step := fun j acc => by
    iintro ⟨H3, H4, H5, H6, H7, %f8, %f11, %f12, %f13, H8, H11, H12, H13, %h⟩
    obtain ⟨h8, h⟩ := h
    unfold k0_t2_body
    let L := inv3 (F := F) c i arg1 harg1 arg2 harg2 arg3 harg3 arg4 harg4 arg5 harg5 arg6 harg6 arg7 harg7 arg8 harg8 arg9 harg9 arg10 harg10 arg11 harg11 arg12 harg12 arg13 harg13 v0 v12 v16 v20 v24 v28 v32 v36 v40 v44 v48 v52 v56 v60 v64 v68 v72 v73 v74 E k0_h2 X3 X4 X5 X6 j (Scalar.addi 0#32 (Scalar.muli (Scf.iv 0#32 1#32 j) 1#32)) R (hR j)
    sl_exec
    sl_step
    isplitl [H3]; · iexact H3
    isplitl [H4]; · iexact H4
    isplitl [H5]; · iexact H5
    isplitl [H6]; · iexact H6
    isplitl [H7]; · iexact H7
    iexists _, _, _, _
    isplitl [H8]; · iexact H8
    isplitl [H11]; · iexact H11
    isplitl [H12]; · iexact H12
    isplitl [H13]; · iexact H13
    ipureintro
    have e : 2 * (j.val + 1) = 2 * j.val + Scf.trips k0_t3_loop.lb k0_t3_loop.ub k0_t3_loop.st := by
      rw [show Scf.trips k0_t3_loop.lb k0_t3_loop.ub k0_t3_loop.st = 2 from by decide]; omega
    refine ⟨hR8 j f8 f11 f12 f13 h8 h, ?_⟩
    rw [e]; assumption

end Cert.Kernel.Hand

end
-- ==== Proof.KRuns.lean ====
/- The kernel's body run once per case of its conditionals, for any relation the units carry. -/
module

public import proofs.«01_k».proof.Proof.Gen.Kernel.Frame
public import proofs.«01_k».proof.Proof.KLoops

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The word of `arg1` at place `o`, its bit `b` read as a sign: `-1` when set, `1` otherwise. -/
def sgn (arg1 : Memref sig .tc .smem S8 .i32) (X1 : BufTy.Contents (Elt F) arg1.view.ty) (o : Fin 1 → ℕ)
    (ho : ∀ d, o d + S1.size d ≤ S8.size d) (b : BitVec 32) : F .f32 :=
  Scalar.select (Scalar.cmpi .ne (Scalar.andi (Scalar.shrui
    (View.readAt (Elt F) arg1.view (Rect.unit (s := S8) o S1.size ho).toLoadRect X1 (Shape.Idx.first (numel1_S1 ▸ Nat.one_pos))) b) 1#32) 0#32)
    (Scalar.ofBits .f32 0xBF800000#32) (Scalar.ofBits .f32 0x3F800000#32)

/-- The scalar of `arg2` at place `o`. -/
def scl (arg2 : Memref sig .tc .smem S3 .f32) (X2 : BufTy.Contents (Elt F) arg2.view.ty) (o : Fin 1 → ℕ)
    (ho : ∀ d, o d + S1.size d ≤ S3.size d) : Elt F .f32 :=
  View.readAt (Elt F) arg2.view (Rect.unit (s := S3) o S1.size ho).toLoadRect X2 (Shape.Idx.first (numel1_S1 ▸ Nat.one_pos))

/-- What a step writes to the block of codes, from the packed words of `arg12`. -/
def P9 (arg12 : Memref sig .tc .vmem S2x224x128 .i32) (f12 : BufTy.Contents (Elt F) arg12.view.ty) : List (View.Piece (Elt F) S256x896 .i8) :=
  [⟨Rect.unit (s := S256x896) ![128, 0] S128x896.size inb_S256x896_S128x896_128_0,
      k0_pay7 (View.readAt (Elt F) arg12.view (Rect.unit (s := S2x224x128) ![1, 0, 0] S1x224x128.size inb_S2x224x128_S1x224x128_1_0_0).toLoadRect f12)⟩,
   ⟨Rect.unit (s := S256x896) ![0, 0] S128x896.size inb_S256x896_S128x896_0_0,
      k0_pay5 (View.readAt (Elt F) arg12.view (Rect.unit (s := S2x224x128) ![0, 0, 0] S1x224x128.size inb_S2x224x128_S1x224x128_0_0_0).toLoadRect f12)⟩]

/-- What a step writes to the block of scales, from the scales of `arg13`. -/
def P10 (arg13 : Memref sig .tc .vmem S2x128x128 .f32) (f13 : BufTy.Contents (Elt F) arg13.view.ty) : List (View.Piece (Elt F) S256x112 .fp8e4m3) :=
  [⟨Rect.unit (s := S256x112) ![128, 0] S128x112.size inb_S256x112_S128x112_128_0,
      k0_pay8 (View.readAt (Elt F) arg13.view (Rect.unit (s := S2x128x128) ![1, 0, 0] S1x128x128.size inb_S2x128x128_S1x128x128_1_0_0).toLoadRect f13)⟩,
   ⟨Rect.unit (s := S256x112) ![0, 0] S128x112.size inb_S256x112_S128x112_0_0,
      k0_pay6 (View.readAt (Elt F) arg13.view (Rect.unit (s := S2x128x128) ![0, 0, 0] S1x128x128.size inb_S2x128x128_S1x128x128_0_0_0).toLoadRect f13)⟩]

variable (c : Dev nD) (i : grid0.Coords) (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole)

/-- The first step: the scales cleared, then all units quantised. -/
theorem runA (hc1 : k0_cond1 i = 1#1) (hc2 : ¬ k0_cond2 i = 1#1) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (R : ℕ → BufTy.Contents (Elt F) arg11.view.ty → BufTy.Contents (Elt F) arg12.view.ty → BufTy.Contents (Elt F) arg13.view.ty → Prop) (hR : ∀ (k : Fin k0_t1_loop.trips) (f11 : BufTy.Contents (Elt F) arg11.view.ty) (f12 : BufTy.Contents (Elt F) arg12.view.ty) (f13 : BufTy.Contents (Elt F) arg13.view.ty), R (k.val) f11 f12 f13 →
      R (k.val + 1) (arg11.view.writes (Elt F) f11 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).1)
        (arg12.view.writes (Elt F) f12 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.1)
        (arg13.view.writes (Elt F) f13 (trip1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc1 k X3 X4 X5 X6).2.2.1))
    (h0 : ∀ f13, R 0 f11 f12 (arg13.view.writes (Elt F) f13 [⟨Rect.unit (s := S2x128x128) ![0, 0, 0] S2x128x128.size inb_S2x128x128_S2x128x128_0_0_0, k0_pay403 (F := F)⟩])) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0_quantise_dy_dw (F := F) i arg1 harg1 arg2 harg2 arg3 harg3 arg4 harg4 arg5 harg5 arg6 harg6 arg7 harg7 arg8 harg8 arg9 harg9 arg10 harg10 arg11 harg11 arg12 harg12 arg13 harg13)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f9 f10 f11 f12 f13, (arg8.view.loc (c : Thread nD τ) ↦[arg8.view.set]{fullShare} f8) ∗ (arg9.view.loc (c : Thread nD τ) ↦[arg9.view.set]{fullShare} (arg9.view.writes (Elt F) f9 (P9 arg12 f12))) ∗ (arg10.view.loc (c : Thread nD τ) ↦[arg10.view.set]{fullShare} (arg10.view.writes (Elt F) f10 (P10 arg13 f13))) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R 14 f11 f12 f13⌝)) := by
  simp only [cc0_quantise_dy_dw_eq_skeleton]; unfold cc0_quantise_dy_dw_skel
  simp only [k0_part112_eq_skeleton, k0_part113_eq_skeleton, k0_part114_eq_skeleton, k0_part56_eq_skeleton]
  let L := inv1 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) E hc1 X3 X4 X5 X6 R hR
  iintro ⟨H1, H2, H3, H4, H5, H6, H7, H8, H9, H10, H11, H12, H13⟩
  have h0' := h0 arg13.view.junk
  sl_exec (disch := first | sl_exact hc1 | sl_exact hc2 | sl_exact h0')
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _, _, _, _, _, _
  isplitl [H8]; · iexact H8
  isplitl [H9]; · iexact H9
  isplitl [H10]; · iexact H10
  isplitl [H11]; · iexact H11
  isplitl [H12]; · iexact H12
  isplitl [H13]; · iexact H13
  ipureintro
  assumption

/-- A later step: the products of the other slot column block by column block, the units quantised in between. -/
theorem runB (hc1 : ¬ k0_cond1 i = 1#1) (hc2 : k0_cond2 i = 1#1) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (R : ℕ → BufTy.Contents (Elt F) arg11.view.ty → BufTy.Contents (Elt F) arg12.view.ty → BufTy.Contents (Elt F) arg13.view.ty → Prop) (R8 : ℕ → BufTy.Contents (Elt F) arg8.view.ty → Prop)
    (hR : ∀ (j : Fin k0_t2_loop.trips) (k : Fin k0_t3_loop.trips) (f11 : BufTy.Contents (Elt F) arg11.view.ty) (f12 : BufTy.Contents (Elt F) arg12.view.ty) (f13 : BufTy.Contents (Elt F) arg13.view.ty), R (2 * j.val + k.val) f11 f12 f13 →
      R (2 * j.val + k.val + 1) (arg11.view.writes (Elt F) f11 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).1)
        (arg12.view.writes (Elt F) f12 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).2.1)
        (arg13.view.writes (Elt F) f13 (trip3 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) hc2 j (Scalar.addi 0#32 (Scalar.muli (Scf.iv 0#32 1#32 j) 1#32)) k X3 X4 X5 X6).2.2.1))
    (hR8 : ∀ (j : Fin k0_t2_loop.trips) (f8 : BufTy.Contents (Elt F) arg8.view.ty) (f11 : BufTy.Contents (Elt F) arg11.view.ty) (f12 : BufTy.Contents (Elt F) arg12.view.ty) (f13 : BufTy.Contents (Elt F) arg13.view.ty), R8 j.val f8 → R (2 * j.val) f11 f12 f13 →
      R8 (j.val + 1) (arg8.view.writes (Elt F) f8
        [⟨(Rect.unit (s := S256x3584) (k0_off10 j) S256x512.size (k0_off10_inb i j hc2)),
          k0_pay1 (scl arg2 X2 ![2] inb_S3_S1_2) (View.readAt (Elt F) arg11.view (Rect.unit (s := S2x256x1792) (k0_off8 i) S1x256x1792.size (k0_off8_inb i hc2)).toLoadRect f11)
            (View.readAt (Elt F) arg7.view (Rect.unit (s := S1792x3584) (k0_off9 j) S1792x512.size (k0_off9_inb i j hc2)).toLoadRect X7)⟩])) (h0 : R8 0 f8 ∧ R (2 * 0) f11 f12 f13) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0_quantise_dy_dw (F := F) i arg1 harg1 arg2 harg2 arg3 harg3 arg4 harg4 arg5 harg5 arg6 harg6 arg7 harg7 arg8 harg8 arg9 harg9 arg10 harg10 arg11 harg11 arg12 harg12 arg13 harg13)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f8 f9 f10 f11 f12 f13, (arg8.view.loc (c : Thread nD τ) ↦[arg8.view.set]{fullShare} f8) ∗ (arg9.view.loc (c : Thread nD τ) ↦[arg9.view.set]{fullShare} (arg9.view.writes (Elt F) f9 (P9 arg12 f12))) ∗ (arg10.view.loc (c : Thread nD τ) ↦[arg10.view.set]{fullShare} (arg10.view.writes (Elt F) f10 (P10 arg13 f13))) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜R8 7 f8 ∧ R 14 f11 f12 f13⌝)) := by
  simp only [cc0_quantise_dy_dw_eq_skeleton]; unfold cc0_quantise_dy_dw_skel
  simp only [k0_part112_eq_skeleton, k0_part113_eq_skeleton, k0_part114_eq_skeleton, k0_part56_eq_skeleton]
  let L := inv2 (F := F) c i arg1 harg1 arg2 harg2 arg3 harg3 arg4 harg4 arg5 harg5 arg6 harg6 arg7 harg7 arg8 harg8 arg9 harg9 arg10 harg10 arg11 harg11 arg12 harg12 arg13 harg13 (Scalar.remsi (BitVec.ofNat 32 (i 0).val) 2#32) (sgn arg1 X1 ![0] inb_S8_S1_0 15#32) (sgn arg1 X1 ![0] inb_S8_S1_0 31#32) (sgn arg1 X1 ![1] inb_S8_S1_1 15#32) (sgn arg1 X1 ![1] inb_S8_S1_1 31#32) (sgn arg1 X1 ![2] inb_S8_S1_2 15#32) (sgn arg1 X1 ![2] inb_S8_S1_2 31#32) (sgn arg1 X1 ![3] inb_S8_S1_3 15#32) (sgn arg1 X1 ![3] inb_S8_S1_3 31#32) (sgn arg1 X1 ![4] inb_S8_S1_4 15#32) (sgn arg1 X1 ![4] inb_S8_S1_4 31#32) (sgn arg1 X1 ![5] inb_S8_S1_5 15#32) (sgn arg1 X1 ![5] inb_S8_S1_5 31#32) (sgn arg1 X1 ![6] inb_S8_S1_6 15#32) (sgn arg1 X1 ![6] inb_S8_S1_6 31#32) (sgn arg1 X1 ![7] inb_S8_S1_7 15#32) (sgn arg1 X1 ![7] inb_S8_S1_7 31#32) (scl arg2 X2 ![0] inb_S3_S1_0) (scl arg2 X2 ![1] inb_S3_S1_1) E hc2 (scl arg2 X2 ![2] inb_S3_S1_2) X3 X4 X5 X6 X7 R R8 hR hR8
  iintro ⟨H1, H2, H3, H4, H5, H6, H7, H8, H9, H10, H11, H12, H13⟩
  sl_exec (disch := first | sl_exact hc1 | sl_exact hc2 | sl_exact h0)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _, _, _, _, _, _
  isplitl [H8]; · iexact H8
  isplitl [H9]; · iexact H9
  isplitl [H10]; · iexact H10
  isplitl [H11]; · iexact H11
  isplitl [H12]; · iexact H12
  isplitl [H13]; · iexact H13
  ipureintro
  assumption

end Cert.Kernel.Hand

end
-- ==== Proof.KFrameW.lean ====
/- The frame of the kernel's program: every run ends, the arguments are unchanged and every counter is zero.
   The scratch buffers are owned at some contents at every point, and of the outputs nothing is named. -/
module

public import proofs.«01_k».proof.Proof.Gen.Kernel.Frame
public import proofs.«01_k».proof.Proof.KRuns
public import proofs.«01_k».proof.Proof.Gen.Kernel.Points
public import Idealize.ShloMosaic.Lib.Claim

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 75 = 0 :=
  (fun t => by
    have ht : t.val < 75 := Nat.lt_of_lt_of_eq t.isLt N_0
    have e0 : (grid0.coords t 0).val = t.val / 1 % 75 := Pipeline.Grid.coords_val t 0 (by decide) rfl
    simp only [cond0_0, k0_cond1, e0]
    word_cmp
   : ∀ t : Fin grid0.N, cond0_0 (grid0.coords t) ↔ t.val % 75 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x3584 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x896 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x112 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x256x1792 .bf16 := Memref.whole cc0_scratch0
abbrev scM0_1 : Memref sig .tc .vmem S2x224x128 .i32 := Memref.whole cc0_scratch1
abbrev scM0_2 : Memref sig .tc .vmem S2x128x128 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them; after the body each input's
    buffer at its block, the outputs not named; the scratch buffers at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

theorem bodyA {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : k0_cond1 i = 1#1) (h2 : ¬ k0_cond2 i = 1#1)
    (x1 : Vec F S8 .i32) (x2 : Vec F S3 .f32) (x3 : Vec F S1792x128 .bf16) (x4 : Vec F S1792x128 .bf16) (x5 : Vec F S1792x128 .i8) (x6 : Vec F S1792x128 .i8) (x7 : Vec F S1792x3584 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0_quantise_dy_dw (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := F)) Variants.none (c : Thread nD τ) none) Set.univ)
  isplitl [H1 H2 H3 H4 H5 H6 H7 H8 H9 H10 H11 H12 H13]
  · iapply (runA (F := F) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun _ _ _ _ => True) (fun _ _ _ _ _ => trivial) (fun _ => trivial))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %_⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

theorem bodyB {c : Dev nD} {i : grid0.Coords} (arg1 : Memref sig .tc .smem S8 .i32) (harg1 : arg1.IsWhole) (arg2 : Memref sig .tc .smem S3 .f32) (harg2 : arg2.IsWhole) (arg3 : Memref sig .tc .vmem S1792x128 .bf16) (harg3 : arg3.IsWhole) (arg4 : Memref sig .tc .vmem S1792x128 .bf16) (harg4 : arg4.IsWhole) (arg5 : Memref sig .tc .vmem S1792x128 .i8) (harg5 : arg5.IsWhole) (arg6 : Memref sig .tc .vmem S1792x128 .i8) (harg6 : arg6.IsWhole) (arg7 : Memref sig .tc .vmem S1792x3584 .bf16) (harg7 : arg7.IsWhole) (arg8 : Memref sig .tc .vmem S256x3584 .f32) (harg8 : arg8.IsWhole) (arg9 : Memref sig .tc .vmem S256x896 .i8) (harg9 : arg9.IsWhole) (arg10 : Memref sig .tc .vmem S256x112 .fp8e4m3) (harg10 : arg10.IsWhole) (arg11 : Memref sig .tc .vmem S2x256x1792 .bf16) (harg11 : arg11.IsWhole) (arg12 : Memref sig .tc .vmem S2x224x128 .i32) (harg12 : arg12.IsWhole) (arg13 : Memref sig .tc .vmem S2x128x128 .f32) (harg13 : arg13.IsWhole) (h1 : ¬ k0_cond1 i = 1#1) (h2 : k0_cond2 i = 1#1)
    (x1 : Vec F S8 .i32) (x2 : Vec F S3 .f32) (x3 : Vec F S1792x128 .bf16) (x4 : Vec F S1792x128 .bf16) (x5 : Vec F S1792x128 .i8) (x6 : Vec F S1792x128 .i8) (x7 : Vec F S1792x3584 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0_quantise_dy_dw (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (wp_wand_r Idealize.ShloMosaic.frame (wpE (defs₀ (F := F)) Variants.none (c : Thread nD τ) none) Set.univ)
  isplitl [H1 H2 H3 H4 H5 H6 H7 H8 H9 H10 H11 H12 H13]
  · iapply (runB (F := F) c i arg1 harg1 arg2 harg2 arg3 harg3 arg4 harg4 arg5 harg5 arg6 harg6 arg7 harg7 arg8 harg8 arg9 harg9 arg10 harg10 arg11 harg11 arg12 harg12 arg13 harg13 h1 h2 Set.univ (harg1.unread x1) (harg2.unread x2) (harg3.unread x3) (harg4.unread x4) (harg5.unread x5) (harg6.unread x6) (harg7.unread x7) f8 f9 f10 f11 f12 f13 (fun _ _ _ _ => True) (fun _ _ => True) (fun _ _ _ _ _ _ => trivial) (fun _ _ _ _ _ _ _ => trivial) ⟨trivial, trivial⟩)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H1, H2, H3, H4, H5, H6, H7, %g8, %g9, %g10, %g11, %g12, %g13, H8, H9, H10, H11, H12, H13, %_⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 75 := lt_of_lt_of_eq t.isLt (show cfg0.N = 75 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 75 = 0
  · have h1 : ¬ 1 ≤ t.val := by omega
    iapply (bodyA (F := F) (c := c) (i := grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h1 : 1 ≤ t.val := by omega
    iapply (bodyB (F := F) (c := c) (i := grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frameR_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.FrameW
public import proofs.«01_k».proof.Proof.Given
public import proofs.«01_k».proof.Proof.RunV
public import proofs.«01_k».proof.Proof.KFrameW
public import Idealize.ShloMosaic.Adequacy
public import Idealize.ShloMosaic.Init

@[expose] public section

noncomputable section

namespace Cert.Proof

open Idealize.ShloMosaic Idealize.SL.Sem Cert.Kernel

/-- Kernel and reference, from equal arguments, end with equal results. -/
theorem algebraic : Cert.algebraic_KernelIdeal_ReferenceIdeal_pre_finite_dy_and_signs
    (hKernelIdeal := Cert.KernelIdeal.Gen.facts) (hReferenceIdeal := Cert.ReferenceIdeal.Gen.facts)
    (hPre_finite_dy_and_signs := Cert.Given.facts) := by
  intro m g m' g' hpre ha
  refine ⟨fun c => Cert.KernelIdeal.Hand.A7 m c, fun c => Cert.KernelIdeal.Hand.A8 m c, fun c => Cert.KernelIdeal.Hand.A9 m c, ?_, ?_⟩
  · refine (θ_run _ _ _).mono (fun r h c => ?_) (Cert.KernelIdeal.Hand.run_named m g)
    obtain ⟨h7, h8, h9, hr⟩ := h c
    exact ⟨h7.trans (Cert.KernelIdeal.Hand.arr7 m c), h8.trans (Cert.KernelIdeal.Hand.arr8 m c), h9.trans (Cert.KernelIdeal.Hand.arr9 m c), hr⟩
  · refine (θ_run _ _ _).mono (fun r h c => ?_) (Cert.ReferenceIdeal.Value.run_blocks m' g')
    obtain ⟨h5, h6, h7, hr⟩ := h c
    obtain ⟨a0, a1, a2, a3, a4, a5⟩ := ha c
    obtain ⟨dy, e, hd, he, h1⟩ := Cert.Given.reals m c (hpre c)
    exact ⟨h5.trans (Cert.Same.same7 m m' c dy e hd he h1 a0 a1 a2 a3 a4 a5), h6.trans (Cert.Same.same8 m m' c dy e hd he h1 a0 a1 a2 a3),
      h7.trans (Cert.Same.same9 m m' c dy e hd he h1 a0 a1 a3), hr⟩

theorem claim : Cert.Claim := ⟨Cert.Kernel.Gen.facts, Cert.KernelIdeal.Gen.facts, Cert.ReferenceIdeal.Gen.facts, Cert.Given.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g, trivial, algebraic⟩

end Cert.Proof

end
